-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_clear_winners [hPre_finite_with_clear_winners : Cert.Pre_finite_with_clear_winners.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_clear_winners.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_with_clear_winners.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_with_clear_winners.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_finite_with_clear_winners.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_clear_winners [hPre_finite_with_clear_winners : Cert.Pre_finite_with_clear_winners.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_clear_winners.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_with_clear_winners.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_with_clear_winners.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_finite_with_clear_winners.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_with_clear_winners [hKernelIdeal : Cert.KernelIdeal.Facts] [hPre_finite_with_clear_winners : Cert.Pre_finite_with_clear_winners.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_clear_winners m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_with_clear_winners [hReferenceIdeal : Cert.ReferenceIdeal.Facts] [hPre_finite_with_clear_winners : Cert.Pre_finite_with_clear_winners.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_clear_winners m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_with_clear_winners [hKernelIdeal : Cert.KernelIdeal.Facts] [hReferenceIdeal : Cert.ReferenceIdeal.Facts] [hPre_finite_with_clear_winners : Cert.Pre_finite_with_clear_winners.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_clear_winners m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_with_clear_winners : Cert.Pre_finite_with_clear_winners.Facts),
    quiescent_Kernel (hKernel := hKernel)
    ∧ quiescent_KernelIdeal (hKernelIdeal := hKernelIdeal)
    ∧ quiescent_KernelIdeal_pre_finite_with_clear_winners (hKernelIdeal := hKernelIdeal) (hPre_finite_with_clear_winners := hPre_finite_with_clear_winners)
    ∧ quiescent_ReferenceIdeal (hReferenceIdeal := hReferenceIdeal)
    ∧ quiescent_ReferenceIdeal_pre_finite_with_clear_winners (hReferenceIdeal := hReferenceIdeal) (hPre_finite_with_clear_winners := hPre_finite_with_clear_winners)
    ∧ preserves_Kernel_KernelIdeal
    ∧ algebraic_KernelIdeal_ReferenceIdeal_pre_finite_with_clear_winners (hKernelIdeal := hKernelIdeal) (hReferenceIdeal := hReferenceIdeal) (hPre_finite_with_clear_winners := hPre_finite_with_clear_winners)
-- ==== Pre_finite_with_clear_winners.lean ====
abbrev S32x1000000 : Shape := ⟨2, ![32, 1000000]⟩
abbrev S32 : Shape := ⟨1, ![32]⟩
abbrev S_ : Shape := ⟨0, ![]⟩
abbrev S32x1 : Shape := ⟨2, ![32, 1]⟩
abbrev S1 : Shape := ⟨1, ![1]⟩
abbrev S2 : Shape := ⟨1, ![2]⟩
abbrev S1x1 : Shape := ⟨2, ![1, 1]⟩
abbrev S1000000 : Shape := ⟨1, ![1000000]⟩
abbrev S1x1000000 : Shape := ⟨2, ![1, 1000000]⟩

class Facts : Prop where
  bcast_S_S32 : S_.BroadcastsInDim S32 (![] : Fin 0 → Fin S32.rank)
  bcast_S32_S32x1_0 : S32.BroadcastsInDim S32x1 (![0] : Fin 1 → Fin S32x1.rank)
  bcast_S32x1_S32x1000000_0_1 : S32x1.BroadcastsInDim S32x1000000 (![0, 1] : Fin 2 → Fin S32x1000000.rank)
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S32x1000000 : S_.BroadcastsInDim S32x1000000 (![] : Fin 0 → Fin S32x1000000.rank)
  natLt_32_64 : 32 < 64
  bcast_S1x1_S32x1000000_0_1 : S1x1.BroadcastsInDim S32x1000000 (![0, 1] : Fin 2 → Fin S32x1000000.rank)
  reducesTo_S32x1000000_S32_d1 : S32x1000000.ReducesTo [1] S32
  h_S_ : 0 < S_.numel
  bcast_S1000000_S1x1000000_1 : S1000000.BroadcastsInDim S1x1000000 (![1] : Fin 1 → Fin S1x1000000.rank)
  bcast_S1x1000000_S32x1000000_0_1 : S1x1000000.BroadcastsInDim S32x1000000 (![0, 1] : Fin 2 → Fin S32x1000000.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_where {F : FTy → Type} [FloatOps F] (arg0 : IVec S32 1) (arg1 : FVec F S32 .f32) (arg2 : FVec F S32 .f32) : FVec F S32 .f32 :=
  let v0 : FVec F S32 .f32 := select arg0 arg1 arg2
  v0

def fn_threefry2x32_part9 {F : FTy → Type} [FloatOps F] (arg0 : IVec S_ 32) (v163 : IVec S32x1000000 32) (v169 : IVec S32x1000000 32) (v170 : IVec S32x1000000 32) : IVec S32x1000000 32 × IVec S32x1000000 32 :=
  let v171 : IVec S32x1000000 32 := addi v163 v170
  let v172 : IVec S32x1000000 32 := broadcastInDim S32x1000000 ![] bcast_S_S32x1000000 arg0
  let v173 : IVec S32x1000000 32 := addi v169 v172
  let c_44 : IVec S_ 32 := constantI S_ 32 5#32
  let v174 : IVec S32x1000000 32 := broadcastInDim S32x1000000 ![] bcast_S_S32x1000000 c_44
  let v175 : IVec S32x1000000 32 := addi v173 v174
  (v171, v175)

def fn_threefry2x32_part8 {F : FTy → Type} [FloatOps F] (arg0 : IVec S_ 32) (v1 : IVec S_ 32) (v148 : IVec S32x1000000 32) (v149 : IVec S32x1000000 32) (v151 : IVec S32x1000000 32) : IVec S32x1000000 32 × IVec S32x1000000 32 :=
  let c_39 : IVec S_ 32 := constantI S_ 32 17#32
  let v152 : IVec S32x1000000 32 := broadcastInDim S32x1000000 ![] bcast_S_S32x1000000 c_39
  let v153 : IVec S32x1000000 32 := Host.shrui v148 v152
  let v154 : IVec S32x1000000 32 := ori v151 v153
  let v155 : IVec S32x1000000 32 := xori v149 v154
  let v156 : IVec S32x1000000 32 := addi v149 v155
  let c_40 : IVec S_ 32 := constantI S_ 32 26#32
  let v157 : IVec S32x1000000 32 := broadcastInDim S32x1000000 ![] bcast_S_S32x1000000 c_40
  let v158 : IVec S32x1000000 32 := Host.shli v155 v157
  let c_41 : IVec S_ 32 := constantI S_ 32 6#32
  let v159 : IVec S32x1000000 32 := broadcastInDim S32x1000000 ![] bcast_S_S32x1000000 c_41
  let v160 : IVec S32x1000000 32 := Host.shrui v155 v159
  let v161 : IVec S32x1000000 32 := ori v158 v160
  let v162 : IVec S32x1000000 32 := xori v156 v161
  let v163 : IVec S32x1000000 32 := addi v156 v162
  let c_42 : IVec S_ 32 := constantI S_ 32 6#32
  let v164 : IVec S32x1000000 32 := broadcastInDim S32x1000000 ![] bcast_S_S32x1000000 c_42
  let v165 : IVec S32x1000000 32 := Host.shli v162 v164
  let c_43 : IVec S_ 32 := constantI S_ 32 26#32
  let v166 : IVec S32x1000000 32 := broadcastInDim S32x1000000 ![] bcast_S_S32x1000000 c_43
  let v167 : IVec S32x1000000 32 := Host.shrui v162 v166
  let v168 : IVec S32x1000000 32 := ori v165 v167
  let v169 : IVec S32x1000000 32 := xori v163 v168
  let v170 : IVec S32x1000000 32 := broadcastInDim S32x1000000 ![] bcast_S_S32x1000000 v1
  fn_threefry2x32_part9 (F := F) arg0 v163 v169 v170

def fn_threefry2x32_part7 {F : FTy → Type} [FloatOps F] (arg0 : IVec S_ 32) (arg1 : IVec S_ 32) (v1 : IVec S_ 32) (v128 : IVec S32x1000000 32) (v129 : IVec S32x1000000 32) (v131 : IVec S32x1000000 32) (c_34 : IVec S_ 32) : IVec S32x1000000 32 × IVec S32x1000000 32 :=
  let v132 : IVec S32x1000000 32 := broadcastInDim S32x1000000 ![] bcast_S_S32x1000000 c_34
  let v133 : IVec S32x1000000 32 := Host.shrui v128 v132
  let v134 : IVec S32x1000000 32 := ori v131 v133
  let v135 : IVec S32x1000000 32 := xori v129 v134
  let v136 : IVec S32x1000000 32 := broadcastInDim S32x1000000 ![] bcast_S_S32x1000000 arg1
  let v137 : IVec S32x1000000 32 := addi v129 v136
  let v138 : IVec S32x1000000 32 := broadcastInDim S32x1000000 ![] bcast_S_S32x1000000 v1
  let v139 : IVec S32x1000000 32 := addi v135 v138
  let c_35 : IVec S_ 32 := constantI S_ 32 4#32
  let v140 : IVec S32x1000000 32 := broadcastInDim S32x1000000 ![] bcast_S_S32x1000000 c_35
  let v141 : IVec S32x1000000 32 := addi v139 v140
  let v142 : IVec S32x1000000 32 := addi v137 v141
  let c_36 : IVec S_ 32 := constantI S_ 32 13#32
  let v143 : IVec S32x1000000 32 := broadcastInDim S32x1000000 ![] bcast_S_S32x1000000 c_36
  let v144 : IVec S32x1000000 32 := Host.shli v141 v143
  let c_37 : IVec S_ 32 := constantI S_ 32 19#32
  let v145 : IVec S32x1000000 32 := broadcastInDim S32x1000000 ![] bcast_S_S32x1000000 c_37
  let v146 : IVec S32x1000000 32 := Host.shrui v141 v145
  let v147 : IVec S32x1000000 32 := ori v144 v146
  let v148 : IVec S32x1000000 32 := xori v142 v147
  let v149 : IVec S32x1000000 32 := addi v142 v148
  let c_38 : IVec S_ 32 := constantI S_ 32 15#32
  let v150 : IVec S32x1000000 32 := broadcastInDim S32x1000000 ![] bcast_S_S32x1000000 c_38
  let v151 : IVec S32x1000000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S32x1000000 32) (v113 : IVec S32x1000000 32) : IVec S32x1000000 32 × IVec S32x1000000 32 :=
  let v114 : IVec S32x1000000 32 := xori v108 v113
  let v115 : IVec S32x1000000 32 := addi v108 v114
  let c_29 : IVec S_ 32 := constantI S_ 32 29#32
  let v116 : IVec S32x1000000 32 := broadcastInDim S32x1000000 ![] bcast_S_S32x1000000 c_29
  let v117 : IVec S32x1000000 32 := Host.shli v114 v116
  let c_30 : IVec S_ 32 := constantI S_ 32 3#32
  let v118 : IVec S32x1000000 32 := broadcastInDim S32x1000000 ![] bcast_S_S32x1000000 c_30
  let v119 : IVec S32x1000000 32 := Host.shrui v114 v118
  let v120 : IVec S32x1000000 32 := ori v117 v119
  let v121 : IVec S32x1000000 32 := xori v115 v120
  let v122 : IVec S32x1000000 32 := addi v115 v121
  let c_31 : IVec S_ 32 := constantI S_ 32 16#32
  let v123 : IVec S32x1000000 32 := broadcastInDim S32x1000000 ![] bcast_S_S32x1000000 c_31
  let v124 : IVec S32x1000000 32 := Host.shli v121 v123
  let c_32 : IVec S_ 32 := constantI S_ 32 16#32
  let v125 : IVec S32x1000000 32 := broadcastInDim S32x1000000 ![] bcast_S_S32x1000000 c_32
  let v126 : IVec S32x1000000 32 := Host.shrui v121 v125
  let v127 : IVec S32x1000000 32 := ori v124 v126
  let v128 : IVec S32x1000000 32 := xori v122 v127
  let v129 : IVec S32x1000000 32 := addi v122 v128
  let c_33 : IVec S_ 32 := constantI S_ 32 24#32
  let v130 : IVec S32x1000000 32 := broadcastInDim S32x1000000 ![] bcast_S_S32x1000000 c_33
  let v131 : IVec S32x1000000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S32x1000000 32) (v94 : IVec S32x1000000 32) : IVec S32x1000000 32 × IVec S32x1000000 32 :=
  let v95 : IVec S32x1000000 32 := addi v88 v94
  let c_24 : IVec S_ 32 := constantI S_ 32 6#32
  let v96 : IVec S32x1000000 32 := broadcastInDim S32x1000000 ![] bcast_S_S32x1000000 c_24
  let v97 : IVec S32x1000000 32 := Host.shli v94 v96
  let c_25 : IVec S_ 32 := constantI S_ 32 26#32
  let v98 : IVec S32x1000000 32 := broadcastInDim S32x1000000 ![] bcast_S_S32x1000000 c_25
  let v99 : IVec S32x1000000 32 := Host.shrui v94 v98
  let v100 : IVec S32x1000000 32 := ori v97 v99
  let v101 : IVec S32x1000000 32 := xori v95 v100
  let v102 : IVec S32x1000000 32 := broadcastInDim S32x1000000 ![] bcast_S_S32x1000000 arg0
  let v103 : IVec S32x1000000 32 := addi v95 v102
  let v104 : IVec S32x1000000 32 := broadcastInDim S32x1000000 ![] bcast_S_S32x1000000 arg1
  let v105 : IVec S32x1000000 32 := addi v101 v104
  let c_26 : IVec S_ 32 := constantI S_ 32 3#32
  let v106 : IVec S32x1000000 32 := broadcastInDim S32x1000000 ![] bcast_S_S32x1000000 c_26
  let v107 : IVec S32x1000000 32 := addi v105 v106
  let v108 : IVec S32x1000000 32 := addi v103 v107
  let c_27 : IVec S_ 32 := constantI S_ 32 17#32
  let v109 : IVec S32x1000000 32 := broadcastInDim S32x1000000 ![] bcast_S_S32x1000000 c_27
  let v110 : IVec S32x1000000 32 := Host.shli v107 v109
  let c_28 : IVec S_ 32 := constantI S_ 32 15#32
  let v111 : IVec S32x1000000 32 := broadcastInDim S32x1000000 ![] bcast_S_S32x1000000 c_28
  let v112 : IVec S32x1000000 32 := Host.shrui v107 v111
  let v113 : IVec S32x1000000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S32x1000000 32) (v74 : IVec S32x1000000 32) (v75 : IVec S32x1000000 32) : IVec S32x1000000 32 × IVec S32x1000000 32 :=
  let v76 : IVec S32x1000000 32 := Host.shli v73 v75
  let c_19 : IVec S_ 32 := constantI S_ 32 19#32
  let v77 : IVec S32x1000000 32 := broadcastInDim S32x1000000 ![] bcast_S_S32x1000000 c_19
  let v78 : IVec S32x1000000 32 := Host.shrui v73 v77
  let v79 : IVec S32x1000000 32 := ori v76 v78
  let v80 : IVec S32x1000000 32 := xori v74 v79
  let v81 : IVec S32x1000000 32 := addi v74 v80
  let c_20 : IVec S_ 32 := constantI S_ 32 15#32
  let v82 : IVec S32x1000000 32 := broadcastInDim S32x1000000 ![] bcast_S_S32x1000000 c_20
  let v83 : IVec S32x1000000 32 := Host.shli v80 v82
  let c_21 : IVec S_ 32 := constantI S_ 32 17#32
  let v84 : IVec S32x1000000 32 := broadcastInDim S32x1000000 ![] bcast_S_S32x1000000 c_21
  let v85 : IVec S32x1000000 32 := Host.shrui v80 v84
  let v86 : IVec S32x1000000 32 := ori v83 v85
  let v87 : IVec S32x1000000 32 := xori v81 v86
  let v88 : IVec S32x1000000 32 := addi v81 v87
  let c_22 : IVec S_ 32 := constantI S_ 32 26#32
  let v89 : IVec S32x1000000 32 := broadcastInDim S32x1000000 ![] bcast_S_S32x1000000 c_22
  let v90 : IVec S32x1000000 32 := Host.shli v87 v89
  let c_23 : IVec S_ 32 := constantI S_ 32 6#32
  let v91 : IVec S32x1000000 32 := broadcastInDim S32x1000000 ![] bcast_S_S32x1000000 c_23
  let v92 : IVec S32x1000000 32 := Host.shrui v87 v91
  let v93 : IVec S32x1000000 32 := ori v90 v92
  let v94 : IVec S32x1000000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S32x1000000 32) (v54 : IVec S32x1000000 32) (v56 : IVec S32x1000000 32) : IVec S32x1000000 32 × IVec S32x1000000 32 :=
  let c_14 : IVec S_ 32 := constantI S_ 32 16#32
  let v57 : IVec S32x1000000 32 := broadcastInDim S32x1000000 ![] bcast_S_S32x1000000 c_14
  let v58 : IVec S32x1000000 32 := Host.shrui v53 v57
  let v59 : IVec S32x1000000 32 := ori v56 v58
  let v60 : IVec S32x1000000 32 := xori v54 v59
  let v61 : IVec S32x1000000 32 := addi v54 v60
  let c_15 : IVec S_ 32 := constantI S_ 32 24#32
  let v62 : IVec S32x1000000 32 := broadcastInDim S32x1000000 ![] bcast_S_S32x1000000 c_15
  let v63 : IVec S32x1000000 32 := Host.shli v60 v62
  let c_16 : IVec S_ 32 := constantI S_ 32 8#32
  let v64 : IVec S32x1000000 32 := broadcastInDim S32x1000000 ![] bcast_S_S32x1000000 c_16
  let v65 : IVec S32x1000000 32 := Host.shrui v60 v64
  let v66 : IVec S32x1000000 32 := ori v63 v65
  let v67 : IVec S32x1000000 32 := xori v61 v66
  let v68 : IVec S32x1000000 32 := broadcastInDim S32x1000000 ![] bcast_S_S32x1000000 v1
  let v69 : IVec S32x1000000 32 := addi v61 v68
  let v70 : IVec S32x1000000 32 := broadcastInDim S32x1000000 ![] bcast_S_S32x1000000 arg0
  let v71 : IVec S32x1000000 32 := addi v67 v70
  let c_17 : IVec S_ 32 := constantI S_ 32 2#32
  let v72 : IVec S32x1000000 32 := broadcastInDim S32x1000000 ![] bcast_S_S32x1000000 c_17
  let v73 : IVec S32x1000000 32 := addi v71 v72
  let v74 : IVec S32x1000000 32 := addi v69 v73
  let c_18 : IVec S_ 32 := constantI S_ 32 13#32
  let v75 : IVec S32x1000000 32 := broadcastInDim S32x1000000 ![] bcast_S_S32x1000000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S32x1000000 32) (v37 : IVec S32x1000000 32) (c_8 : IVec S_ 32) : IVec S32x1000000 32 × IVec S32x1000000 32 :=
  let v38 : IVec S32x1000000 32 := broadcastInDim S32x1000000 ![] bcast_S_S32x1000000 c_8
  let v39 : IVec S32x1000000 32 := addi v37 v38
  let v40 : IVec S32x1000000 32 := addi v35 v39
  let c_9 : IVec S_ 32 := constantI S_ 32 17#32
  let v41 : IVec S32x1000000 32 := broadcastInDim S32x1000000 ![] bcast_S_S32x1000000 c_9
  let v42 : IVec S32x1000000 32 := Host.shli v39 v41
  let c_10 : IVec S_ 32 := constantI S_ 32 15#32
  let v43 : IVec S32x1000000 32 := broadcastInDim S32x1000000 ![] bcast_S_S32x1000000 c_10
  let v44 : IVec S32x1000000 32 := Host.shrui v39 v43
  let v45 : IVec S32x1000000 32 := ori v42 v44
  let v46 : IVec S32x1000000 32 := xori v40 v45
  let v47 : IVec S32x1000000 32 := addi v40 v46
  let c_11 : IVec S_ 32 := constantI S_ 32 29#32
  let v48 : IVec S32x1000000 32 := broadcastInDim S32x1000000 ![] bcast_S_S32x1000000 c_11
  let v49 : IVec S32x1000000 32 := Host.shli v46 v48
  let c_12 : IVec S_ 32 := constantI S_ 32 3#32
  let v50 : IVec S32x1000000 32 := broadcastInDim S32x1000000 ![] bcast_S_S32x1000000 c_12
  let v51 : IVec S32x1000000 32 := Host.shrui v46 v50
  let v52 : IVec S32x1000000 32 := ori v49 v51
  let v53 : IVec S32x1000000 32 := xori v47 v52
  let v54 : IVec S32x1000000 32 := addi v47 v53
  let c_13 : IVec S_ 32 := constantI S_ 32 16#32
  let v55 : IVec S32x1000000 32 := broadcastInDim S32x1000000 ![] bcast_S_S32x1000000 c_13
  let v56 : IVec S32x1000000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S32x1000000 32) (v18 : IVec S32x1000000 32) : IVec S32x1000000 32 × IVec S32x1000000 32 :=
  let v19 : IVec S32x1000000 32 := xori v13 v18
  let v20 : IVec S32x1000000 32 := addi v13 v19
  let c_4 : IVec S_ 32 := constantI S_ 32 26#32
  let v21 : IVec S32x1000000 32 := broadcastInDim S32x1000000 ![] bcast_S_S32x1000000 c_4
  let v22 : IVec S32x1000000 32 := Host.shli v19 v21
  let c_5 : IVec S_ 32 := constantI S_ 32 6#32
  let v23 : IVec S32x1000000 32 := broadcastInDim S32x1000000 ![] bcast_S_S32x1000000 c_5
  let v24 : IVec S32x1000000 32 := Host.shrui v19 v23
  let v25 : IVec S32x1000000 32 := ori v22 v24
  let v26 : IVec S32x1000000 32 := xori v20 v25
  let v27 : IVec S32x1000000 32 := addi v20 v26
  let c_6 : IVec S_ 32 := constantI S_ 32 6#32
  let v28 : IVec S32x1000000 32 := broadcastInDim S32x1000000 ![] bcast_S_S32x1000000 c_6
  let v29 : IVec S32x1000000 32 := Host.shli v26 v28
  let c_7 : IVec S_ 32 := constantI S_ 32 26#32
  let v30 : IVec S32x1000000 32 := broadcastInDim S32x1000000 ![] bcast_S_S32x1000000 c_7
  let v31 : IVec S32x1000000 32 := Host.shrui v26 v30
  let v32 : IVec S32x1000000 32 := ori v29 v31
  let v33 : IVec S32x1000000 32 := xori v27 v32
  let v34 : IVec S32x1000000 32 := broadcastInDim S32x1000000 ![] bcast_S_S32x1000000 arg1
  let v35 : IVec S32x1000000 32 := addi v27 v34
  let v36 : IVec S32x1000000 32 := broadcastInDim S32x1000000 ![] bcast_S_S32x1000000 v1
  let v37 : IVec S32x1000000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S32x1000000 32) (arg3 : IVec S32x1000000 32) : IVec S32x1000000 32 × IVec S32x1000000 32 :=
  let v0 : IVec S_ 32 := xori arg0 arg1
  let c : IVec S_ 32 := constantI S_ 32 466688986#32
  let v1 : IVec S_ 32 := xori v0 c
  let v2 : IVec S32x1000000 32 := broadcastInDim S32x1000000 ![] bcast_S_S32x1000000 arg0
  let v3 : IVec S32x1000000 32 := addi arg2 v2
  let v4 : IVec S32x1000000 32 := broadcastInDim S32x1000000 ![] bcast_S_S32x1000000 arg1
  let v5 : IVec S32x1000000 32 := addi arg3 v4
  let v6 : IVec S32x1000000 32 := addi v3 v5
  let c_0 : IVec S_ 32 := constantI S_ 32 13#32
  let v7 : IVec S32x1000000 32 := broadcastInDim S32x1000000 ![] bcast_S_S32x1000000 c_0
  let v8 : IVec S32x1000000 32 := Host.shli v5 v7
  let c_1 : IVec S_ 32 := constantI S_ 32 19#32
  let v9 : IVec S32x1000000 32 := broadcastInDim S32x1000000 ![] bcast_S_S32x1000000 c_1
  let v10 : IVec S32x1000000 32 := Host.shrui v5 v9
  let v11 : IVec S32x1000000 32 := ori v8 v10
  let v12 : IVec S32x1000000 32 := xori v6 v11
  let v13 : IVec S32x1000000 32 := addi v6 v12
  let c_2 : IVec S_ 32 := constantI S_ 32 15#32
  let v14 : IVec S32x1000000 32 := broadcastInDim S32x1000000 ![] bcast_S_S32x1000000 c_2
  let v15 : IVec S32x1000000 32 := Host.shli v12 v14
  let c_3 : IVec S_ 32 := constantI S_ 32 17#32
  let v16 : IVec S32x1000000 32 := broadcastInDim S32x1000000 ![] bcast_S_S32x1000000 c_3
  let v17 : IVec S32x1000000 32 := Host.shrui v12 v16
  let v18 : IVec S32x1000000 32 := ori v15 v17
  fn_threefry2x32_part1 (F := F) arg0 arg1 v1 v13 v18

def fn_uniform_part1 {F : FTy → Type} [FloatOps F] (v1 : FVec F S1x1 .f32) (v2 : FVec F S1x1 .f32) (v19 : IVec S32x1000000 32) : FVec F S32x1000000 .f32 :=
  let c_2 : IVec S_ 32 := constantI S_ 32 9#32
  let v20 : IVec S32x1000000 32 := broadcastInDim S32x1000000 ![] bcast_S_S32x1000000 c_2
  let v21 : IVec S32x1000000 32 := Host.shrui v19 v20
  let c_3 : IVec S_ 32 := constantI S_ 32 1065353216#32
  let v22 : IVec S32x1000000 32 := broadcastInDim S32x1000000 ![] bcast_S_S32x1000000 c_3
  let v23 : IVec S32x1000000 32 := ori v21 v22
  let v24 : FVec F S32x1000000 .f32 := bitcastToFloat .f32 v23
  let cst : FVec F S_ .f32 := constant S_ .f32 0x3F800000#32
  let v25 : FVec F S32x1000000 .f32 := broadcastInDim S32x1000000 ![] bcast_S_S32x1000000 cst
  let v26 : FVec F S32x1000000 .f32 := subf v24 v25
  let v27 : FVec F S1x1 .f32 := subf v2 v1
  let v28 : FVec F S32x1000000 .f32 := broadcastInDim S32x1000000 ![0, 1] bcast_S1x1_S32x1000000_0_1 v27
  let v29 : FVec F S32x1000000 .f32 := mulf v26 v28
  let v30 : FVec F S32x1000000 .f32 := broadcastInDim S32x1000000 ![0, 1] bcast_S1x1_S32x1000000_0_1 v1
  let v31 : FVec F S32x1000000 .f32 := addf v29 v30
  let v32 : FVec F S32x1000000 .f32 := broadcastInDim S32x1000000 ![0, 1] bcast_S1x1_S32x1000000_0_1 v1
  let v33 : FVec F S32x1000000 .f32 := maximumf v32 v31
  v33

def fn_uniform {F : FTy → Type} [FloatOps F] (arg0 : IVec S2 32) (arg1 : FVec F S_ .f32) (arg2 : FVec F S_ .f32) : FVec F S32x1000000 .f32 :=
  let v0 : FVec F S_ .f32 := id arg1
  let v1 : FVec F S1x1 .f32 := broadcastInDim S1x1 ![] bcast_S_S1x1 arg2
  let v2 : FVec F S1x1 .f32 := broadcastInDim S1x1 ![] bcast_S_S1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S32x1000000 64 := iotaInDim S32x1000000 64 0
  let v8 : IVec S32x1000000 64 := iotaInDim S32x1000000 64 1
  let c : IVec S_ 64 := constantI S_ 64 1000000#64
  let v9 : IVec S32x1000000 64 := broadcastInDim S32x1000000 ![] bcast_S_S32x1000000 c
  let v10 : IVec S32x1000000 64 := muli v9 v7
  let c_0 : IVec S_ 64 := constantI S_ 64 1#64
  let v11 : IVec S32x1000000 64 := broadcastInDim S32x1000000 ![] bcast_S_S32x1000000 c_0
  let v12 : IVec S32x1000000 64 := muli v11 v8
  let v13 : IVec S32x1000000 64 := addi v10 v12
  let c_1 : IVec S_ 64 := constantI S_ 64 32#64
  let v14 : IVec S32x1000000 64 := broadcastInDim S32x1000000 ![] bcast_S_S32x1000000 c_1
  let v15 : IVec S32x1000000 64 := Host.shrui v13 v14
  let v16 : IVec S32x1000000 32 := (trunci 32 · natLt_32_64) v13
  let v17 : IVec S32x1000000 32 := (trunci 32 · natLt_32_64) v15
  let v18_0 : IVec S32x1000000 32 := (fn_threefry2x32 (F := F) v4 v6 v17 v16).1
  let v18_1 : IVec S32x1000000 32 := (fn_threefry2x32 (F := F) v4 v6 v17 v16).2
  let v19 : IVec S32x1000000 32 := xori v18_0 v18_1
  fn_uniform_part1 (F := F) v1 v2 v19

def fn_gumbel {F : FTy → Type} [FloatOps F] (arg0 : IVec S2 32) : FVec F S32x1000000 .f32 :=
  let cst : FVec F S_ .f32 := constant S_ .f32 0x3F800000#32
  let cst_0 : FVec F S_ .f32 := constant S_ .f32 0x00800000#32
  let v0 : FVec F S32x1000000 .f32 := fn_uniform (F := F) arg0 cst cst_0
  let v1 : FVec F S32x1000000 .f32 := Host.log v0
  let v2 : FVec F S32x1000000 .f32 := Host.negf v1
  let v3 : FVec F S32x1000000 .f32 := Host.log v2
  let v4 : FVec F S32x1000000 .f32 := Host.negf v3
  v4

def fn_argmax {F : FTy → Type} [FloatOps F] (arg0 : FVec F S32x1000000 .f32) : IVec S32 32 :=
  let v0 : IVec S32x1000000 32 := iotaInDim S32x1000000 32 1
  let cst : FVec F S_ .f32 := constant S_ .f32 0xFF800000#32
  let c : IVec S_ 32 := constantI S_ 32 0#32
  let v1_0 : FVec F S32 .f32 := (fun x y u v j => (Host.argReduce reducer_argmax_f32_i32 x y u v reducesTo_S32x1000000_S32_d1 h_S_ j).1) arg0 v0 cst c
  let v1_1 : IVec S32 32 := (fun x y u v j => (Host.argReduce reducer_argmax_f32_i32 x y u v reducesTo_S32x1000000_S32_d1 h_S_ j).2) arg0 v0 cst c
  v1_1

def fn_part2 {F : FTy → Type} [FloatOps F] (main_arg1 : FVec F S32 .f32) (main_v34 : IVec S32x1000000 1) (main_v37 : IVec S32x1000000 1) (main_cst_7 : FVec F S_ .f32) : IVec S32x1000000 1 × IVec S32 1 × IVec S32 1 × IVec S32x1000000 1 :=
  let main_v38 : FVec F S32 .f32 := broadcastInDim S32 ![] bcast_S_S32 main_cst_7
  let main_v39 : IVec S32 1 := cmpf .oge main_arg1 main_v38
  let main_cst_8 : FVec F S_ .f32 := constant S_ .f32 0x7F800000#32
  let main_v40 : FVec F S32 .f32 := broadcastInDim S32 ![] bcast_S_S32 main_cst_8
  let main_v41 : IVec S32 1 := cmpf .olt main_arg1 main_v40
  (main_v37, main_v39, main_v41, main_v34)

def fn_part1 {F : FTy → Type} [FloatOps F] (main_arg0 : FVec F S32x1000000 .f32) (main_arg1 : FVec F S32 .f32) (main_v15 : FVec F S32x1000000 .f32) (main_v16 : FVec F S32 .f32) (main_v17 : IVec S32 32) : IVec S32x1000000 1 × IVec S32 1 × IVec S32 1 × IVec S32x1000000 1 :=
  let main_v18 : IVec S1000000 32 := iotaInDim S1000000 32 0
  let main_cst_4 : FVec F S_ .f32 := constant S_ .f32 0x00000000#32
  let main_v19 : FVec F S32 .f32 := broadcastInDim S32 ![] bcast_S_S32 main_cst_4
  let main_v20 : IVec S32 1 := cmpf .oeq main_arg1 main_v19
  let main_v21 : IVec S32x1 1 := broadcastInDim S32x1 ![0] bcast_S32_S32x1_0 main_v20
  let main_v22 : IVec S1x1000000 32 := broadcastInDim S1x1000000 ![1] bcast_S1000000_S1x1000000_1 main_v18
  let main_v23 : IVec S32x1 32 := broadcastInDim S32x1 ![0] bcast_S32_S32x1_0 main_v17
  let main_v24 : IVec S32x1000000 32 := broadcastInDim S32x1000000 ![0, 1] bcast_S1x1000000_S32x1000000_0_1 main_v22
  let main_v25 : IVec S32x1000000 32 := broadcastInDim S32x1000000 ![0, 1] bcast_S32x1_S32x1000000_0_1 main_v23
  let main_v26 : IVec S32x1000000 1 := cmpi .eq main_v24 main_v25
  let main_v27 : IVec S32x1000000 1 := broadcastInDim S32x1000000 ![0, 1] bcast_S32x1_S32x1000000_0_1 main_v21
  let main_v28 : IVec S32x1000000 1 := ori main_v27 main_v26
  let main_cst_5 : FVec F S_ .f32 := constant S_ .f32 0x3A83126F#32
  let main_v29 : FVec F S32x1000000 .f32 := broadcastInDim S32x1000000 ![] bcast_S_S32x1000000 main_cst_5
  let main_v30 : FVec F S32x1000000 .f32 := addf main_v15 main_v29
  let main_v31 : FVec F S32x1 .f32 := broadcastInDim S32x1 ![0] bcast_S32_S32x1_0 main_v16
  let main_v32 : FVec F S32x1000000 .f32 := broadcastInDim S32x1000000 ![0, 1] bcast_S32x1_S32x1000000_0_1 main_v31
  let main_v33 : IVec S32x1000000 1 := cmpf .ole main_v30 main_v32
  let main_v34 : IVec S32x1000000 1 := ori main_v28 main_v33
  let main_v35 : FVec F S32x1000000 .f32 := Host.absf main_arg0
  let main_cst_6 : FVec F S_ .f32 := constant S_ .f32 0x7F800000#32
  let main_v36 : FVec F S32x1000000 .f32 := broadcastInDim S32x1000000 ![] bcast_S_S32x1000000 main_cst_6
  let main_v37 : IVec S32x1000000 1 := cmpf .olt main_v35 main_v36
  let main_cst_7 : FVec F S_ .f32 := constant S_ .f32 0x00000000#32
  fn_part2 (F := F) main_arg1 main_v34 main_v37 main_cst_7

def fn {F : FTy → Type} [FloatOps F] (main_arg0 : FVec F S32x1000000 .f32) (main_arg1 : FVec F S32 .f32) : IVec S32x1000000 1 × IVec S32 1 × IVec S32 1 × IVec S32x1000000 1 :=
  let main_cst : FVec F S_ .f32 := constant S_ .f32 0x00000000#32
  let main_v0 : FVec F S32 .f32 := broadcastInDim S32 ![] bcast_S_S32 main_cst
  let main_v1 : IVec S32 1 := cmpf .oeq main_arg1 main_v0
  let main_cst_0 : FVec F S_ .f32 := constant S_ .f32 0x3F800000#32
  let main_v2 : FVec F S32 .f32 := broadcastInDim S32 ![] bcast_S_S32 main_cst_0
  let main_v3 : FVec F S32 .f32 := fn_where (F := F) main_v1 main_v2 main_arg1
  let main_v4 : FVec F S32x1 .f32 := broadcastInDim S32x1 ![0] bcast_S32_S32x1_0 main_v3
  let main_v5 : FVec F S32x1000000 .f32 := broadcastInDim S32x1000000 ![0, 1] bcast_S32x1_S32x1000000_0_1 main_v4
  let main_v6 : FVec F S32x1000000 .f32 := Host.divf main_arg0 main_v5
  let main_c : IVec S_ 32 := constantI S_ 32 42#32
  let main_c_1 : IVec S_ 32 := constantI S_ 32 32#32
  let main_v7 : IVec S_ 32 := Host.shrui main_c main_c_1
  let main_v8 : IVec S_ 32 := id main_v7
  let main_v9 : IVec S1 32 := broadcastInDim S1 ![] bcast_S_S1 main_v8
  let main_c_2 : IVec S_ 32 := constantI S_ 32 4294967295#32
  let main_v10 : IVec S_ 32 := andi main_c main_c_2
  let main_v11 : IVec S_ 32 := id main_v10
  let main_v12 : IVec S1 32 := broadcastInDim S1 ![] bcast_S_S1 main_v11
  let main_v13 : IVec S2 32 := (fun a b => concatenate S2 0 [⟨S1, a⟩, ⟨S1, b⟩] concatenates_S1_S1_S2_d0) main_v9 main_v12
  let main_v14 : FVec F S32x1000000 .f32 := fn_gumbel (F := F) main_v13
  let main_v15 : FVec F S32x1000000 .f32 := addf main_v6 main_v14
  let main_cst_3 : FVec F S_ .f32 := constant S_ .f32 0xFF800000#32
  let main_v16 : FVec F S32 .f32 := (fun x v => Host.reduce FloatOps.maximumf x v reducesTo_S32x1000000_S32_d1 h_S_) main_v15 main_cst_3
  let main_v17 : IVec S32 32 := fn_argmax (F := F) main_v15
  fn_part1 (F := F) main_arg0 main_arg1 main_v15 main_v16 main_v17
-- ==== Kernel.lean ====
abbrev S32x1000000 : Shape := ⟨2, ![32, 1000000]⟩
abbrev S32 : Shape := ⟨1, ![32]⟩
abbrev S32x1 : Shape := ⟨2, ![32, 1]⟩
abbrev S32x32768 : Shape := ⟨2, ![32, 32768]⟩
abbrev S31x32x1 : Shape := ⟨3, ![31, 32, 1]⟩
abbrev S32x2048 : Shape := ⟨2, ![32, 2048]⟩
abbrev S1x32x1 : Shape := ⟨3, ![1, 32, 1]⟩

abbrev nBuf : Space → Nat
  | .hbm => 6
  | .vmem => 11
  | .smem => 0
  | _ => 0

abbrev bufTy : (tb : Table) → Fin (tcTables nBuf tb) → BufTy
  | .hbm, ⟨0, _⟩ => ⟨S32x1000000, .f32⟩
  | .hbm, ⟨1, _⟩ => ⟨S32, .f32⟩
  | .hbm, ⟨2, _⟩ => ⟨S32x1, .i32⟩
  | .hbm, ⟨3, _⟩ => ⟨S32x1, .f32⟩
  | .hbm, ⟨4, _⟩ => ⟨S32x1, .i32⟩
  | .hbm, ⟨5, _⟩ => ⟨S32, .i32⟩
  | .local _ .vmem, ⟨0, _⟩ => ⟨S32x1, .f32⟩
  | .local _ .vmem, ⟨1, _⟩ => ⟨S32x1, .i32⟩
  | .local _ .vmem, ⟨2, _⟩ => ⟨S32x32768, .f32⟩
  | .local _ .vmem, ⟨3, _⟩ => ⟨S32x32768, .f32⟩
  | .local _ .vmem, ⟨4, _⟩ => ⟨S32x32768, .f32⟩
  | .local _ .vmem, ⟨5, _⟩ => ⟨S32x32768, .f32⟩
  | .local _ .vmem, ⟨6, _⟩ => ⟨S32x1, .i32⟩
  | .local _ .vmem, ⟨7, _⟩ => ⟨S32x1, .f32⟩
  | .local _ .vmem, ⟨8, _⟩ => ⟨S31x32x1, .f32⟩
  | .local _ .vmem, ⟨9, _⟩ => ⟨S31x32x1, .f32⟩
  | .local _ .vmem, ⟨10, _⟩ => ⟨S31x32x1, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c31_i32_13 : BitVec 32 := 31#32
  let v27 : BitVec 1 := Scalar.cmpi .ne arg0 c31_i32_13
  let v28 : BitVec 32 := Scalar.extui v27
  let c0_i32_14 : BitVec 32 := 0#32
  let v29 : BitVec 1 := Scalar.cmpi .ne v28 c0_i32_14
  v29

def k0_off1 (i : grid0.Coords) : Fin 3 → Nat :=
  let arg0 : BitVec 32 := BitVec.ofNat 32 (i 0).val
  let c1_i32_976 : BitVec 32 := 1#32
  let v3220 : BitVec 32 := Scalar.subi arg0 c1_i32_976
  let v3221 : Index := Scalar.indexCast v3220
  let c0_977 : Index := 0#32
  let c0_978 : Index := 0#32
  ![v3221.toNat, 0, 0]
def k0_cond4 (i : grid0.Coords) : BitVec 1 :=
  let arg0 : BitVec 32 := BitVec.ofNat 32 (i 0).val
  let c31_i32_15 : BitVec 32 := 31#32
  let v30 : BitVec 1 := Scalar.cmpi .eq arg0 c31_i32_15
  let v31 : BitVec 32 := Scalar.extui v30
  let c0_i32_16 : BitVec 32 := 0#32
  let v32 : BitVec 1 := Scalar.cmpi .ne v31 c0_i32_16
  v32

def k0_off2 (i : grid0.Coords) : Fin 3 → Nat :=
  let arg0 : BitVec 32 := BitVec.ofNat 32 (i 0).val
  let c1_i32_1007 : BitVec 32 := 1#32
  let v3284 : BitVec 32 := Scalar.subi arg0 c1_i32_1007
  let v3285 : Index := Scalar.indexCast v3284
  let c0_1008 : Index := 0#32
  let c0_1009 : Index := 0#32
  ![v3285.toNat, 0, 0]
def k0_cond8 (i : grid0.Coords) : BitVec 1 :=
  let arg0 : BitVec 32 := BitVec.ofNat 32 (i 0).val
  let c31_i32_4 : BitVec 32 := 31#32
  let v9 : BitVec 1 := Scalar.cmpi .eq arg0 c31_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c30_i32 : BitVec 32 := 30#32
  let v0 : BitVec 32 := Scalar.minsi arg0 c30_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32x1000000 : Shape := ⟨2, ![32, 1000000]⟩
abbrev S32 : Shape := ⟨1, ![32]⟩
abbrev S_ : Shape := ⟨0, ![]⟩
abbrev S32x1 : Shape := ⟨2, ![32, 1]⟩
abbrev S1 : Shape := ⟨1, ![1]⟩
abbrev S2 : Shape := ⟨1, ![2]⟩
abbrev S1x1 : Shape := ⟨2, ![1, 1]⟩

abbrev nBuf : Space → Nat
  | .hbm => 321
  | .vmem => 0
  | .smem => 0
  | _ => 0

abbrev hbmTy0_0 (i : Nat) : BufTy := match i % 128 with
  | 0 => ⟨S32x1000000, .f32⟩
  | 1 => ⟨S32, .f32⟩
  | 2 => ⟨S_, .f32⟩
  | 3 => ⟨S32, .f32⟩
  | 4 => ⟨S32, .i1⟩
  | 5 => ⟨S_, .f32⟩
  | 6 => ⟨S32, .f32⟩
  | 7 => ⟨S32, .f32⟩
  | 8 => ⟨S32x1, .f32⟩
  | 9 => ⟨S32x1000000, .f32⟩
  | 10 => ⟨S32x1000000, .f32⟩
  | 11 => ⟨S_, .f32⟩
  | 12 => ⟨S32, .f32⟩
  | 13 => ⟨S_, .f32⟩
  | 14 => ⟨S32, .f32⟩
  | 15 => ⟨S32, .f32⟩
  | 16 => ⟨S32x1, .f32⟩
  | 17 => ⟨S32x1000000, .f32⟩
  | 18 => ⟨S32x1000000, .f32⟩
  | 19 => ⟨S32x1000000, .f32⟩
  | 20 => ⟨S_, .f32⟩
  | 21 => ⟨S32, .f32⟩
  | 22 => ⟨S32x1, .f32⟩
  | 23 => ⟨S32x1000000, .f32⟩
  | 24 => ⟨S32x1000000, .f32⟩
  | 25 => ⟨S32x1000000, .i32⟩
  | 26 => ⟨S_, .f32⟩
  | 27 => ⟨S_, .i32⟩
  | 28 => ⟨S32, .f32⟩
  | 29 => ⟨S32, .i32⟩
  | 30 => ⟨S_, .i32⟩
  | 31 => ⟨S_, .i32⟩
  | 32 => ⟨S_, .i32⟩
  | 33 => ⟨S_, .i32⟩
  | 34 => ⟨S1, .i32⟩
  | 35 => ⟨S_, .i32⟩
  | 36 => ⟨S_, .i32⟩
  | 37 => ⟨S_, .i32⟩
  | 38 => ⟨S1, .i32⟩
  | 39 => ⟨S2, .i32⟩
  | 40 => ⟨S_, .f32⟩
  | 41 => ⟨S32x1000000, .f32⟩
  | 42 => ⟨S32x1000000, .f32⟩
  | 43 => ⟨S32x1000000, .f32⟩
  | 44 => ⟨S_, .f32⟩
  | 45 => ⟨S_, .f32⟩
  | 46 => ⟨S_, .f32⟩
  | 47 => ⟨S1x1, .f32⟩
  | 48 => ⟨S1x1, .f32⟩
  | 49 => ⟨S1, .i32⟩
  | 50 => ⟨S_, .i32⟩
  | 51 => ⟨S1, .i32⟩
  | 52 => ⟨S_, .i32⟩
  | 53 => ⟨S32x1000000, .i64⟩
  | 54 => ⟨S32x1000000, .i64⟩
  | 55 => ⟨S_, .i64⟩
  | 56 => ⟨S32x1000000, .i64⟩
  | 57 => ⟨S32x1000000, .i64⟩
  | 58 => ⟨S_, .i64⟩
  | 59 => ⟨S32x1000000, .i64⟩
  | 60 => ⟨S32x1000000, .i64⟩
  | 61 => ⟨S32x1000000, .i64⟩
  | 62 => ⟨S_, .i64⟩
  | 63 => ⟨S32x1000000, .i64⟩
  | 64 => ⟨S32x1000000, .i64⟩
  | 65 => ⟨S32x1000000, .i32⟩
  | 66 => ⟨S32x1000000, .i32⟩
  | 67 => ⟨S_, .i32⟩
  | 68 => ⟨S_, .i32⟩
  | 69 => ⟨S_, .i32⟩
  | 70 => ⟨S32x1000000, .i32⟩
  | 71 => ⟨S32x1000000, .i32⟩
  | 72 => ⟨S32x1000000, .i32⟩
  | 73 => ⟨S32x1000000, .i32⟩
  | 74 => ⟨S32x1000000, .i32⟩
  | 75 => ⟨S_, .i32⟩
  | 76 => ⟨S32x1000000, .i32⟩
  | 77 => ⟨S32x1000000, .i32⟩
  | 78 => ⟨S_, .i32⟩
  | 79 => ⟨S32x1000000, .i32⟩
  | 80 => ⟨S32x1000000, .i32⟩
  | 81 => ⟨S32x1000000, .i32⟩
  | 82 => ⟨S32x1000000, .i32⟩
  | 83 => ⟨S32x1000000, .i32⟩
  | 84 => ⟨S_, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S32x1000000, .i32⟩
  | 100 => ⟨S32x1000000, .i32⟩
  | 101 => ⟨S32x1000000, .i32⟩
  | 102 => ⟨S_, .i32⟩
  | 103 => ⟨S32x1000000, .i32⟩
  | 104 => ⟨S32x1000000, .i32⟩
  | 105 => ⟨S_, .i32⟩
  | 106 => ⟨S32x1000000, .i32⟩
  | 107 => ⟨S32x1000000, .i32⟩
  | 108 => ⟨S32x1000000, .i32⟩
  | 109 => ⟨S32x1000000, .i32⟩
  | 110 => ⟨S32x1000000, .i32⟩
  | 111 => ⟨S32x1000000, .i32⟩
  | 112 => ⟨S32x1000000, .i32⟩
  | 113 => ⟨S32x1000000, .i32⟩
  | 114 => ⟨S_, .i32⟩
  | 115 => ⟨S32x1000000, .i32⟩
  | 116 => ⟨S32x1000000, .i32⟩
  | 117 => ⟨S32x1000000, .i32⟩
  | 118 => ⟨S_, .i32⟩
  | 119 => ⟨S32x1000000, .i32⟩
  | 120 => ⟨S32x1000000, .i32⟩
  | 121 => ⟨S_, .i32⟩
  | 122 => ⟨S32x1000000, .i32⟩
  | 123 => ⟨S32x1000000, .i32⟩
  | 124 => ⟨S32x1000000, .i32⟩
  | 125 => ⟨S32x1000000, .i32⟩
  | 126 => ⟨S32x1000000, .i32⟩
  | 127 => ⟨S_, .i32⟩
  | _ => ⟨S32x1000000, .f32⟩

abbrev hbmTy0_1 (i : Nat) : BufTy := match i % 128 with
  | 0 => ⟨S32x1000000, .i32⟩
  | 1 => ⟨S32x1000000, .i32⟩
  | 2 => ⟨S_, .i32⟩
  | 3 => ⟨S32x1000000, .i32⟩
  | 4 => ⟨S32x1000000, .i32⟩
  | 5 => ⟨S32x1000000, .i32⟩
  | 6 => ⟨S32x1000000, .i32⟩
  | 7 => ⟨S32x1000000, .i32⟩
  | 8 => ⟨S_, .i32⟩
  | 9 => ⟨S32x1000000, .i32⟩
  | 10 => ⟨S32x1000000, .i32⟩
  | 11 => ⟨S_, .i32⟩
  | 12 => ⟨S32x1000000, .i32⟩
  | 13 => ⟨S32x1000000, .i32⟩
  | 14 => ⟨S32x1000000, .i32⟩
  | 15 => ⟨S32x1000000, .i32⟩
  | 16 => ⟨S32x1000000, .i32⟩
  | 17 => ⟨S_, .i32⟩
  | 18 => ⟨S32x1000000, .i32⟩
  | 19 => ⟨S32x1000000, .i32⟩
  | 20 => ⟨S_, .i32⟩
  | 21 => ⟨S32x1000000, .i32⟩
  | 22 => ⟨S32x1000000, .i32⟩
  | 23 => ⟨S32x1000000, .i32⟩
  | 24 => ⟨S32x1000000, .i32⟩
  | 25 => ⟨S32x1000000, .i32⟩
  | 26 => ⟨S32x1000000, .i32⟩
  | 27 => ⟨S32x1000000, .i32⟩
  | 28 => ⟨S32x1000000, .i32⟩
  | 29 => ⟨S_, .i32⟩
  | 30 => ⟨S32x1000000, .i32⟩
  | 31 => ⟨S32x1000000, .i32⟩
  | 32 => ⟨S32x1000000, .i32⟩
  | 33 => ⟨S_, .i32⟩
  | 34 => ⟨S32x1000000, .i32⟩
  | 35 => ⟨S32x1000000, .i32⟩
  | 36 => ⟨S_, .i32⟩
  | 37 => ⟨S32x1000000, .i32⟩
  | 38 => ⟨S32x1000000, .i32⟩
  | 39 => ⟨S32x1000000, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S32x1000000, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S32x1000000, .i32⟩
  | 58 => ⟨S32x1000000, .i32⟩
  | 59 => ⟨S32x1000000, .i32⟩
  | 60 => ⟨S_, .i32⟩
  | 61 => ⟨S32x1000000, .i32⟩
  | 62 => ⟨S32x1000000, .i32⟩
  | 63 => ⟨S_, .i32⟩
  | 64 => ⟨S32x1000000, .i32⟩
  | 65 => ⟨S32x1000000, .i32⟩
  | 66 => ⟨S32x1000000, .i32⟩
  | 67 => ⟨S32x1000000, .i32⟩
  | 68 => ⟨S32x1000000, .i32⟩
  | 69 => ⟨S32x1000000, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S_, .i32⟩
  | 80 => ⟨S32x1000000, .i32⟩
  | 81 => ⟨S32x1000000, .i32⟩
  | 82 => ⟨S32x1000000, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S_, .i32⟩
  | 89 => ⟨S32x1000000, .i32⟩
  | 90 => ⟨S32x1000000, .i32⟩
  | 91 => ⟨S32x1000000, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S_, .i32⟩
  | 98 => ⟨S32x1000000, .i32⟩
  | 99 => ⟨S32x1000000, .i32⟩
  | 100 => ⟨S32x1000000, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S_, .i32⟩
  | 107 => ⟨S32x1000000, .i32⟩
  | 108 => ⟨S32x1000000, .i32⟩
  | 109 => ⟨S32x1000000, .i32⟩
  | 110 => ⟨S32x1000000, .i32⟩
  | 111 => ⟨S32x1000000, .i32⟩
  | 112 => ⟨S32x1000000, .i32⟩
  | 113 => ⟨S32x1000000, .i32⟩
  | 114 => ⟨S32x1000000, .i32⟩
  | 115 => ⟨S_, .i32⟩
  | 116 => ⟨S32x1000000, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S_, .i32⟩
  | 123 => ⟨S32x1000000, .i32⟩
  | 124 => ⟨S32x1000000, .i32⟩
  | 125 => ⟨S32x1000000, .i32⟩
  | 126 => ⟨S32x1000000, .i32⟩
  | 127 => ⟨S32x1000000, .i32⟩
  | _ => ⟨S32x1000000, .f32⟩

abbrev hbmTy0_2 (i : Nat) : BufTy := match i % 128 with
  | 0 => ⟨S_, .i32⟩
  | 1 => ⟨S32x1000000, .i32⟩
  | 2 => ⟨S32x1000000, .i32⟩
  | 3 => ⟨S_, .i32⟩
  | 4 => ⟨S32x1000000, .i32⟩
  | 5 => ⟨S32x1000000, .i32⟩
  | 6 => ⟨S32x1000000, .i32⟩
  | 7 => ⟨S32x1000000, .i32⟩
  | 8 => ⟨S32x1000000, .i32⟩
  | 9 => ⟨S_, .i32⟩
  | 10 => ⟨S32x1000000, .i32⟩
  | 11 => ⟨S32x1000000, .i32⟩
  | 12 => ⟨S_, .i32⟩
  | 13 => ⟨S32x1000000, .i32⟩
  | 14 => ⟨S32x1000000, .i32⟩
  | 15 => ⟨S32x1000000, .i32⟩
  | 16 => ⟨S32x1000000, .i32⟩
  | 17 => ⟨S32x1000000, .i32⟩
  | 18 => ⟨S_, .i32⟩
  | 19 => ⟨S32x1000000, .i32⟩
  | 20 => ⟨S32x1000000, .i32⟩
  | 21 => ⟨S_, .i32⟩
  | 22 => ⟨S32x1000000, .i32⟩
  | 23 => ⟨S32x1000000, .i32⟩
  | 24 => ⟨S32x1000000, .i32⟩
  | 25 => ⟨S32x1000000, .i32⟩
  | 26 => ⟨S32x1000000, .i32⟩
  | 27 => ⟨S32x1000000, .i32⟩
  | 28 => ⟨S32x1000000, .i32⟩
  | 29 => ⟨S32x1000000, .i32⟩
  | 30 => ⟨S_, .i32⟩
  | 31 => ⟨S32x1000000, .i32⟩
  | 32 => ⟨S32x1000000, .i32⟩
  | 33 => ⟨S32x1000000, .i32⟩
  | 34 => ⟨S_, .i32⟩
  | 35 => ⟨S32x1000000, .i32⟩
  | 36 => ⟨S32x1000000, .i32⟩
  | 37 => ⟨S_, .i32⟩
  | 38 => ⟨S32x1000000, .i32⟩
  | 39 => ⟨S32x1000000, .i32⟩
  | 40 => ⟨S32x1000000, .f32⟩
  | 41 => ⟨S_, .f32⟩
  | 42 => ⟨S32x1000000, .f32⟩
  | 43 => ⟨S32x1000000, .f32⟩
  | 44 => ⟨S1x1, .f32⟩
  | 45 => ⟨S32x1000000, .f32⟩
  | 46 => ⟨S32x1000000, .f32⟩
  | 47 => ⟨S32x1000000, .f32⟩
  | 48 => ⟨S32x1000000, .f32⟩
  | 49 => ⟨S32x1000000, .f32⟩
  | 50 => ⟨S32x1000000, .f32⟩
  | 51 => ⟨S32x1000000, .f32⟩
  | 52 => ⟨S32x1000000, .f32⟩
  | 53 => ⟨S32x1000000, .f32⟩
  | 54 => ⟨S32x1000000, .f32⟩
  | 55 => ⟨S32x1000000, .f32⟩
  | 56 => ⟨S32x1000000, .i32⟩
  | 57 => ⟨S_, .f32⟩
  | 58 => ⟨S_, .i32⟩
  | 59 => ⟨S32, .f32⟩
  | 60 => ⟨S32, .i32⟩
  | 61 => ⟨S_, .f32⟩
  | 62 => ⟨S32, .f32⟩
  | 63 => ⟨S32, .i1⟩
  | 64 => ⟨S32, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call1_v0 : Ref sig .tc := ⟨.hbm, 25, rfl⟩
abbrev main_call1_cst : Ref sig .tc := ⟨.hbm, 26, rfl⟩
abbrev main_call1_c : Ref sig .tc := ⟨.hbm, 27, rfl⟩
abbrev main_call1_v1_0 : Ref sig .tc := ⟨.hbm, 28, rfl⟩
abbrev main_v18 : Ref sig .tc := ⟨.hbm, 29, rfl⟩
abbrev main_c : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call2_cst : Ref sig .tc := ⟨.hbm, 44, rfl⟩
abbrev main_call2_cst_0 : Ref sig .tc := ⟨.hbm, 45, rfl⟩
abbrev main_call2_call0_v0 : Ref sig .tc := ⟨.hbm, 46, rfl⟩
abbrev main_call2_call0_v1 : Ref sig .tc := ⟨.hbm, 47, rfl⟩
abbrev main_call2_call0_v2 : Ref sig .tc := ⟨.hbm, 48, rfl⟩
abbrev main_call2_call0_v3 : Ref sig .tc := ⟨.hbm, 49, rfl⟩
abbrev main_call2_call0_v4 : Ref sig .tc := ⟨.hbm, 50, rfl⟩
abbrev main_call2_call0_v5 : Ref sig .tc := ⟨.hbm, 51, rfl⟩
abbrev main_call2_call0_v6 : Ref sig .tc := ⟨.hbm, 52, rfl⟩
abbrev main_call2_call0_v7 : Ref sig .tc := ⟨.hbm, 53, rfl⟩
abbrev main_call2_call0_v8 : Ref sig .tc := ⟨.hbm, 54, rfl⟩
abbrev main_call2_call0_c : Ref sig .tc := ⟨.hbm, 55, rfl⟩
abbrev main_call2_call0_v9 : Ref sig .tc := ⟨.hbm, 56, rfl⟩
abbrev main_call2_call0_v10 : Ref sig .tc := ⟨.hbm, 57, rfl⟩
abbrev main_call2_call0_c_0 : Ref sig .tc := ⟨.hbm, 58, rfl⟩
abbrev main_call2_call0_v11 : Ref sig .tc := ⟨.hbm, 59, rfl⟩
abbrev main_call2_call0_v12 : Ref sig .tc := ⟨.hbm, 60, rfl⟩
abbrev main_call2_call0_v13 : Ref sig .tc := ⟨.hbm, 61, rfl⟩
abbrev main_call2_call0_c_1 : Ref sig .tc := ⟨.hbm, 62, rfl⟩
abbrev main_call2_call0_v14 : Ref sig .tc := ⟨.hbm, 63, rfl⟩
abbrev main_call2_call0_v15 : Ref sig .tc := ⟨.hbm, 64, rfl⟩
abbrev main_call2_call0_v16 : Ref sig .tc := ⟨.hbm, 65, rfl⟩
abbrev main_call2_call0_v17 : Ref sig .tc := ⟨.hbm, 66, rfl⟩
abbrev main_call2_call0_call0_v0 : Ref sig .tc := ⟨.hbm, 67, rfl⟩
abbrev main_call2_call0_call0_c : Ref sig .tc := ⟨.hbm, 68, rfl⟩
abbrev main_call2_call0_call0_v1 : Ref sig .tc := ⟨.hbm, 69, rfl⟩
abbrev main_call2_call0_call0_v2 : Ref sig .tc := ⟨.hbm, 70, rfl⟩
abbrev main_call2_call0_call0_v3 : Ref sig .tc := ⟨.hbm, 71, rfl⟩
abbrev main_call2_call0_call0_v4 : Ref sig .tc := ⟨.hbm, 72, rfl⟩
abbrev main_call2_call0_call0_v5 : Ref sig .tc := ⟨.hbm, 73, rfl⟩
abbrev main_call2_call0_call0_v6 : Ref sig .tc := ⟨.hbm, 74, rfl⟩
abbrev main_call2_call0_call0_c_0 : Ref sig .tc := ⟨.hbm, 75, rfl⟩
abbrev main_call2_call0_call0_v7 : Ref sig .tc := ⟨.hbm, 76, rfl⟩
abbrev main_call2_call0_call0_v8 : Ref sig .tc := ⟨.hbm, 77, rfl⟩
abbrev main_call2_call0_call0_c_1 : Ref sig .tc := ⟨.hbm, 78, rfl⟩
abbrev main_call2_call0_call0_v9 : Ref sig .tc := ⟨.hbm, 79, rfl⟩
abbrev main_call2_call0_call0_v10 : Ref sig .tc := ⟨.hbm, 80, rfl⟩
abbrev main_call2_call0_call0_v11 : Ref sig .tc := ⟨.hbm, 81, rfl⟩
abbrev main_call2_call0_call0_v12 : Ref sig .tc := ⟨.hbm, 82, rfl⟩
abbrev main_call2_call0_call0_v13 : Ref sig .tc := ⟨.hbm, 83, rfl⟩
abbrev main_call2_call0_call0_c_2 : Ref sig .tc := ⟨.hbm, 84, rfl⟩
abbrev main_call2_call0_call0_v14 : Ref sig .tc := ⟨.hbm, 85, rfl⟩
abbrev main_call2_call0_call0_v15 : Ref sig .tc := ⟨.hbm, 86, rfl⟩
abbrev main_call2_call0_call0_c_3 : Ref sig .tc := ⟨.hbm, 87, rfl⟩
abbrev main_call2_call0_call0_v16 : Ref sig .tc := ⟨.hbm, 88, rfl⟩
abbrev main_call2_call0_call0_v17 : Ref sig .tc := ⟨.hbm, 89, rfl⟩
abbrev main_call2_call0_call0_v18 : Ref sig .tc := ⟨.hbm, 90, rfl⟩
abbrev main_call2_call0_call0_v19 : Ref sig .tc := ⟨.hbm, 91, rfl⟩
abbrev main_call2_call0_call0_v20 : Ref sig .tc := ⟨.hbm, 92, rfl⟩
abbrev main_call2_call0_call0_c_4 : Ref sig .tc := ⟨.hbm, 93, rfl⟩
abbrev main_call2_call0_call0_v21 : Ref sig .tc := ⟨.hbm, 94, rfl⟩
abbrev main_call2_call0_call0_v22 : Ref sig .tc := ⟨.hbm, 95, rfl⟩
abbrev main_call2_call0_call0_c_5 : Ref sig .tc := ⟨.hbm, 96, rfl⟩
abbrev main_call2_call0_call0_v23 : Ref sig .tc := ⟨.hbm, 97, rfl⟩
abbrev main_call2_call0_call0_v24 : Ref sig .tc := ⟨.hbm, 98, rfl⟩
abbrev main_call2_call0_call0_v25 : Ref sig .tc := ⟨.hbm, 99, rfl⟩
abbrev main_call2_call0_call0_v26 : Ref sig .tc := ⟨.hbm, 100, rfl⟩
abbrev main_call2_call0_call0_v27 : Ref sig .tc := ⟨.hbm, 101, rfl⟩
abbrev main_call2_call0_call0_c_6 : Ref sig .tc := ⟨.hbm, 102, rfl⟩
abbrev main_call2_call0_call0_v28 : Ref sig .tc := ⟨.hbm, 103, rfl⟩
abbrev main_call2_call0_call0_v29 : Ref sig .tc := ⟨.hbm, 104, rfl⟩
abbrev main_call2_call0_call0_c_7 : Ref sig .tc := ⟨.hbm, 105, rfl⟩
abbrev main_call2_call0_call0_v30 : Ref sig .tc := ⟨.hbm, 106, rfl⟩
abbrev main_call2_call0_call0_v31 : Ref sig .tc := ⟨.hbm, 107, rfl⟩
abbrev main_call2_call0_call0_v32 : Ref sig .tc := ⟨.hbm, 108, rfl⟩
abbrev main_call2_call0_call0_v33 : Ref sig .tc := ⟨.hbm, 109, rfl⟩
abbrev main_call2_call0_call0_v34 : Ref sig .tc := ⟨.hbm, 110, rfl⟩
abbrev main_call2_call0_call0_v35 : Ref sig .tc := ⟨.hbm, 111, rfl⟩
abbrev main_call2_call0_call0_v36 : Ref sig .tc := ⟨.hbm, 112, rfl⟩
abbrev main_call2_call0_call0_v37 : Ref sig .tc := ⟨.hbm, 113, rfl⟩
abbrev main_call2_call0_call0_c_8 : Ref sig .tc := ⟨.hbm, 114, rfl⟩
abbrev main_call2_call0_call0_v38 : Ref sig .tc := ⟨.hbm, 115, rfl⟩
abbrev main_call2_call0_call0_v39 : Ref sig .tc := ⟨.hbm, 116, rfl⟩
abbrev main_call2_call0_call0_v40 : Ref sig .tc := ⟨.hbm, 117, rfl⟩
abbrev main_call2_call0_call0_c_9 : Ref sig .tc := ⟨.hbm, 118, rfl⟩
abbrev main_call2_call0_call0_v41 : Ref sig .tc := ⟨.hbm, 119, rfl⟩
abbrev main_call2_call0_call0_v42 : Ref sig .tc := ⟨.hbm, 120, rfl⟩
abbrev main_call2_call0_call0_c_10 : Ref sig .tc := ⟨.hbm, 121, rfl⟩
abbrev main_call2_call0_call0_v43 : Ref sig .tc := ⟨.hbm, 122, rfl⟩
abbrev main_call2_call0_call0_v44 : Ref sig .tc := ⟨.hbm, 123, rfl⟩
abbrev main_call2_call0_call0_v45 : Ref sig .tc := ⟨.hbm, 124, rfl⟩
abbrev main_call2_call0_call0_v46 : Ref sig .tc := ⟨.hbm, 125, rfl⟩
abbrev main_call2_call0_call0_v47 : Ref sig .tc := ⟨.hbm, 126, rfl⟩
abbrev main_call2_call0_call0_c_11 : Ref sig .tc := ⟨.hbm, 127, rfl⟩
abbrev main_call2_call0_call0_v48 : Ref sig .tc := ⟨.hbm, 128, rfl⟩
abbrev main_call2_call0_call0_v49 : Ref sig .tc := ⟨.hbm, 129, rfl⟩
abbrev main_call2_call0_call0_c_12 : Ref sig .tc := ⟨.hbm, 130, rfl⟩
abbrev main_call2_call0_call0_v50 : Ref sig .tc := ⟨.hbm, 131, rfl⟩
abbrev main_call2_call0_call0_v51 : Ref sig .tc := ⟨.hbm, 132, rfl⟩
abbrev main_call2_call0_call0_v52 : Ref sig .tc := ⟨.hbm, 133, rfl⟩
abbrev main_call2_call0_call0_v53 : Ref sig .tc := ⟨.hbm, 134, rfl⟩
abbrev main_call2_call0_call0_v54 : Ref sig .tc := ⟨.hbm, 135, rfl⟩
abbrev main_call2_call0_call0_c_13 : Ref sig .tc := ⟨.hbm, 136, rfl⟩
abbrev main_call2_call0_call0_v55 : Ref sig .tc := ⟨.hbm, 137, rfl⟩
abbrev main_call2_call0_call0_v56 : Ref sig .tc := ⟨.hbm, 138, rfl⟩
abbrev main_call2_call0_call0_c_14 : Ref sig .tc := ⟨.hbm, 139, rfl⟩
abbrev main_call2_call0_call0_v57 : Ref sig .tc := ⟨.hbm, 140, rfl⟩
abbrev main_call2_call0_call0_v58 : Ref sig .tc := ⟨.hbm, 141, rfl⟩
abbrev main_call2_call0_call0_v59 : Ref sig .tc := ⟨.hbm, 142, rfl⟩
abbrev main_call2_call0_call0_v60 : Ref sig .tc := ⟨.hbm, 143, rfl⟩
abbrev main_call2_call0_call0_v61 : Ref sig .tc := ⟨.hbm, 144, rfl⟩
abbrev main_call2_call0_call0_c_15 : Ref sig .tc := ⟨.hbm, 145, rfl⟩
abbrev main_call2_call0_call0_v62 : Ref sig .tc := ⟨.hbm, 146, rfl⟩
abbrev main_call2_call0_call0_v63 : Ref sig .tc := ⟨.hbm, 147, rfl⟩
abbrev main_call2_call0_call0_c_16 : Ref sig .tc := ⟨.hbm, 148, rfl⟩
abbrev main_call2_call0_call0_v64 : Ref sig .tc := ⟨.hbm, 149, rfl⟩
abbrev main_call2_call0_call0_v65 : Ref sig .tc := ⟨.hbm, 150, rfl⟩
abbrev main_call2_call0_call0_v66 : Ref sig .tc := ⟨.hbm, 151, rfl⟩
abbrev main_call2_call0_call0_v67 : Ref sig .tc := ⟨.hbm, 152, rfl⟩
abbrev main_call2_call0_call0_v68 : Ref sig .tc := ⟨.hbm, 153, rfl⟩
abbrev main_call2_call0_call0_v69 : Ref sig .tc := ⟨.hbm, 154, rfl⟩
abbrev main_call2_call0_call0_v70 : Ref sig .tc := ⟨.hbm, 155, rfl⟩
abbrev main_call2_call0_call0_v71 : Ref sig .tc := ⟨.hbm, 156, rfl⟩
abbrev main_call2_call0_call0_c_17 : Ref sig .tc := ⟨.hbm, 157, rfl⟩
abbrev main_call2_call0_call0_v72 : Ref sig .tc := ⟨.hbm, 158, rfl⟩
abbrev main_call2_call0_call0_v73 : Ref sig .tc := ⟨.hbm, 159, rfl⟩
abbrev main_call2_call0_call0_v74 : Ref sig .tc := ⟨.hbm, 160, rfl⟩
abbrev main_call2_call0_call0_c_18 : Ref sig .tc := ⟨.hbm, 161, rfl⟩
abbrev main_call2_call0_call0_v75 : Ref sig .tc := ⟨.hbm, 162, rfl⟩
abbrev main_call2_call0_call0_v76 : Ref sig .tc := ⟨.hbm, 163, rfl⟩
abbrev main_call2_call0_call0_c_19 : Ref sig .tc := ⟨.hbm, 164, rfl⟩
abbrev main_call2_call0_call0_v77 : Ref sig .tc := ⟨.hbm, 165, rfl⟩
abbrev main_call2_call0_call0_v78 : Ref sig .tc := ⟨.hbm, 166, rfl⟩
abbrev main_call2_call0_call0_v79 : Ref sig .tc := ⟨.hbm, 167, rfl⟩
abbrev main_call2_call0_call0_v80 : Ref sig .tc := ⟨.hbm, 168, rfl⟩
abbrev main_call2_call0_call0_v81 : Ref sig .tc := ⟨.hbm, 169, rfl⟩
abbrev main_call2_call0_call0_c_20 : Ref sig .tc := ⟨.hbm, 170, rfl⟩
abbrev main_call2_call0_call0_v82 : Ref sig .tc := ⟨.hbm, 171, rfl⟩
abbrev main_call2_call0_call0_v83 : Ref sig .tc := ⟨.hbm, 172, rfl⟩
abbrev main_call2_call0_call0_c_21 : Ref sig .tc := ⟨.hbm, 173, rfl⟩
abbrev main_call2_call0_call0_v84 : Ref sig .tc := ⟨.hbm, 174, rfl⟩
abbrev main_call2_call0_call0_v85 : Ref sig .tc := ⟨.hbm, 175, rfl⟩
abbrev main_call2_call0_call0_v86 : Ref sig .tc := ⟨.hbm, 176, rfl⟩
abbrev main_call2_call0_call0_v87 : Ref sig .tc := ⟨.hbm, 177, rfl⟩
abbrev main_call2_call0_call0_v88 : Ref sig .tc := ⟨.hbm, 178, rfl⟩
abbrev main_call2_call0_call0_c_22 : Ref sig .tc := ⟨.hbm, 179, rfl⟩
abbrev main_call2_call0_call0_v89 : Ref sig .tc := ⟨.hbm, 180, rfl⟩
abbrev main_call2_call0_call0_v90 : Ref sig .tc := ⟨.hbm, 181, rfl⟩
abbrev main_call2_call0_call0_c_23 : Ref sig .tc := ⟨.hbm, 182, rfl⟩
abbrev main_call2_call0_call0_v91 : Ref sig .tc := ⟨.hbm, 183, rfl⟩
abbrev main_call2_call0_call0_v92 : Ref sig .tc := ⟨.hbm, 184, rfl⟩
abbrev main_call2_call0_call0_v93 : Ref sig .tc := ⟨.hbm, 185, rfl⟩
abbrev main_call2_call0_call0_v94 : Ref sig .tc := ⟨.hbm, 186, rfl⟩
abbrev main_call2_call0_call0_v95 : Ref sig .tc := ⟨.hbm, 187, rfl⟩
abbrev main_call2_call0_call0_c_24 : Ref sig .tc := ⟨.hbm, 188, rfl⟩
abbrev main_call2_call0_call0_v96 : Ref sig .tc := ⟨.hbm, 189, rfl⟩
abbrev main_call2_call0_call0_v97 : Ref sig .tc := ⟨.hbm, 190, rfl⟩
abbrev main_call2_call0_call0_c_25 : Ref sig .tc := ⟨.hbm, 191, rfl⟩
abbrev main_call2_call0_call0_v98 : Ref sig .tc := ⟨.hbm, 192, rfl⟩
abbrev main_call2_call0_call0_v99 : Ref sig .tc := ⟨.hbm, 193, rfl⟩
abbrev main_call2_call0_call0_v100 : Ref sig .tc := ⟨.hbm, 194, rfl⟩
abbrev main_call2_call0_call0_v101 : Ref sig .tc := ⟨.hbm, 195, rfl⟩
abbrev main_call2_call0_call0_v102 : Ref sig .tc := ⟨.hbm, 196, rfl⟩
abbrev main_call2_call0_call0_v103 : Ref sig .tc := ⟨.hbm, 197, rfl⟩
abbrev main_call2_call0_call0_v104 : Ref sig .tc := ⟨.hbm, 198, rfl⟩
abbrev main_call2_call0_call0_v105 : Ref sig .tc := ⟨.hbm, 199, rfl⟩
abbrev main_call2_call0_call0_c_26 : Ref sig .tc := ⟨.hbm, 200, rfl⟩
abbrev main_call2_call0_call0_v106 : Ref sig .tc := ⟨.hbm, 201, rfl⟩
abbrev main_call2_call0_call0_v107 : Ref sig .tc := ⟨.hbm, 202, rfl⟩
abbrev main_call2_call0_call0_v108 : Ref sig .tc := ⟨.hbm, 203, rfl⟩
abbrev main_call2_call0_call0_c_27 : Ref sig .tc := ⟨.hbm, 204, rfl⟩
abbrev main_call2_call0_call0_v109 : Ref sig .tc := ⟨.hbm, 205, rfl⟩
abbrev main_call2_call0_call0_v110 : Ref sig .tc := ⟨.hbm, 206, rfl⟩
abbrev main_call2_call0_call0_c_28 : Ref sig .tc := ⟨.hbm, 207, rfl⟩
abbrev main_call2_call0_call0_v111 : Ref sig .tc := ⟨.hbm, 208, rfl⟩
abbrev main_call2_call0_call0_v112 : Ref sig .tc := ⟨.hbm, 209, rfl⟩
abbrev main_call2_call0_call0_v113 : Ref sig .tc := ⟨.hbm, 210, rfl⟩
abbrev main_call2_call0_call0_v114 : Ref sig .tc := ⟨.hbm, 211, rfl⟩
abbrev main_call2_call0_call0_v115 : Ref sig .tc := ⟨.hbm, 212, rfl⟩
abbrev main_call2_call0_call0_c_29 : Ref sig .tc := ⟨.hbm, 213, rfl⟩
abbrev main_call2_call0_call0_v116 : Ref sig .tc := ⟨.hbm, 214, rfl⟩
abbrev main_call2_call0_call0_v117 : Ref sig .tc := ⟨.hbm, 215, rfl⟩
abbrev main_call2_call0_call0_c_30 : Ref sig .tc := ⟨.hbm, 216, rfl⟩
abbrev main_call2_call0_call0_v118 : Ref sig .tc := ⟨.hbm, 217, rfl⟩
abbrev main_call2_call0_call0_v119 : Ref sig .tc := ⟨.hbm, 218, rfl⟩
abbrev main_call2_call0_call0_v120 : Ref sig .tc := ⟨.hbm, 219, rfl⟩
abbrev main_call2_call0_call0_v121 : Ref sig .tc := ⟨.hbm, 220, rfl⟩
abbrev main_call2_call0_call0_v122 : Ref sig .tc := ⟨.hbm, 221, rfl⟩
abbrev main_call2_call0_call0_c_31 : Ref sig .tc := ⟨.hbm, 222, rfl⟩
abbrev main_call2_call0_call0_v123 : Ref sig .tc := ⟨.hbm, 223, rfl⟩
abbrev main_call2_call0_call0_v124 : Ref sig .tc := ⟨.hbm, 224, rfl⟩
abbrev main_call2_call0_call0_c_32 : Ref sig .tc := ⟨.hbm, 225, rfl⟩
abbrev main_call2_call0_call0_v125 : Ref sig .tc := ⟨.hbm, 226, rfl⟩
abbrev main_call2_call0_call0_v126 : Ref sig .tc := ⟨.hbm, 227, rfl⟩
abbrev main_call2_call0_call0_v127 : Ref sig .tc := ⟨.hbm, 228, rfl⟩
abbrev main_call2_call0_call0_v128 : Ref sig .tc := ⟨.hbm, 229, rfl⟩
abbrev main_call2_call0_call0_v129 : Ref sig .tc := ⟨.hbm, 230, rfl⟩
abbrev main_call2_call0_call0_c_33 : Ref sig .tc := ⟨.hbm, 231, rfl⟩
abbrev main_call2_call0_call0_v130 : Ref sig .tc := ⟨.hbm, 232, rfl⟩
abbrev main_call2_call0_call0_v131 : Ref sig .tc := ⟨.hbm, 233, rfl⟩
abbrev main_call2_call0_call0_c_34 : Ref sig .tc := ⟨.hbm, 234, rfl⟩
abbrev main_call2_call0_call0_v132 : Ref sig .tc := ⟨.hbm, 235, rfl⟩
abbrev main_call2_call0_call0_v133 : Ref sig .tc := ⟨.hbm, 236, rfl⟩
abbrev main_call2_call0_call0_v134 : Ref sig .tc := ⟨.hbm, 237, rfl⟩
abbrev main_call2_call0_call0_v135 : Ref sig .tc := ⟨.hbm, 238, rfl⟩
abbrev main_call2_call0_call0_v136 : Ref sig .tc := ⟨.hbm, 239, rfl⟩
abbrev main_call2_call0_call0_v137 : Ref sig .tc := ⟨.hbm, 240, rfl⟩
abbrev main_call2_call0_call0_v138 : Ref sig .tc := ⟨.hbm, 241, rfl⟩
abbrev main_call2_call0_call0_v139 : Ref sig .tc := ⟨.hbm, 242, rfl⟩
abbrev main_call2_call0_call0_c_35 : Ref sig .tc := ⟨.hbm, 243, rfl⟩
abbrev main_call2_call0_call0_v140 : Ref sig .tc := ⟨.hbm, 244, rfl⟩
abbrev main_call2_call0_call0_v141 : Ref sig .tc := ⟨.hbm, 245, rfl⟩
abbrev main_call2_call0_call0_v142 : Ref sig .tc := ⟨.hbm, 246, rfl⟩
abbrev main_call2_call0_call0_c_36 : Ref sig .tc := ⟨.hbm, 247, rfl⟩
abbrev main_call2_call0_call0_v143 : Ref sig .tc := ⟨.hbm, 248, rfl⟩
abbrev main_call2_call0_call0_v144 : Ref sig .tc := ⟨.hbm, 249, rfl⟩
abbrev main_call2_call0_call0_c_37 : Ref sig .tc := ⟨.hbm, 250, rfl⟩
abbrev main_call2_call0_call0_v145 : Ref sig .tc := ⟨.hbm, 251, rfl⟩
abbrev main_call2_call0_call0_v146 : Ref sig .tc := ⟨.hbm, 252, rfl⟩
abbrev main_call2_call0_call0_v147 : Ref sig .tc := ⟨.hbm, 253, rfl⟩
abbrev main_call2_call0_call0_v148 : Ref sig .tc := ⟨.hbm, 254, rfl⟩
abbrev main_call2_call0_call0_v149 : Ref sig .tc := ⟨.hbm, 255, rfl⟩
abbrev main_call2_call0_call0_c_38 : Ref sig .tc := ⟨.hbm, 256, rfl⟩
abbrev main_call2_call0_call0_v150 : Ref sig .tc := ⟨.hbm, 257, rfl⟩
abbrev main_call2_call0_call0_v151 : Ref sig .tc := ⟨.hbm, 258, rfl⟩
abbrev main_call2_call0_call0_c_39 : Ref sig .tc := ⟨.hbm, 259, rfl⟩
abbrev main_call2_call0_call0_v152 : Ref sig .tc := ⟨.hbm, 260, rfl⟩
abbrev main_call2_call0_call0_v153 : Ref sig .tc := ⟨.hbm, 261, rfl⟩
abbrev main_call2_call0_call0_v154 : Ref sig .tc := ⟨.hbm, 262, rfl⟩
abbrev main_call2_call0_call0_v155 : Ref sig .tc := ⟨.hbm, 263, rfl⟩
abbrev main_call2_call0_call0_v156 : Ref sig .tc := ⟨.hbm, 264, rfl⟩
abbrev main_call2_call0_call0_c_40 : Ref sig .tc := ⟨.hbm, 265, rfl⟩
abbrev main_call2_call0_call0_v157 : Ref sig .tc := ⟨.hbm, 266, rfl⟩
abbrev main_call2_call0_call0_v158 : Ref sig .tc := ⟨.hbm, 267, rfl⟩
abbrev main_call2_call0_call0_c_41 : Ref sig .tc := ⟨.hbm, 268, rfl⟩
abbrev main_call2_call0_call0_v159 : Ref sig .tc := ⟨.hbm, 269, rfl⟩
abbrev main_call2_call0_call0_v160 : Ref sig .tc := ⟨.hbm, 270, rfl⟩
abbrev main_call2_call0_call0_v161 : Ref sig .tc := ⟨.hbm, 271, rfl⟩
abbrev main_call2_call0_call0_v162 : Ref sig .tc := ⟨.hbm, 272, rfl⟩
abbrev main_call2_call0_call0_v163 : Ref sig .tc := ⟨.hbm, 273, rfl⟩
abbrev main_call2_call0_call0_c_42 : Ref sig .tc := ⟨.hbm, 274, rfl⟩
abbrev main_call2_call0_call0_v164 : Ref sig .tc := ⟨.hbm, 275, rfl⟩
abbrev main_call2_call0_call0_v165 : Ref sig .tc := ⟨.hbm, 276, rfl⟩
abbrev main_call2_call0_call0_c_43 : Ref sig .tc := ⟨.hbm, 277, rfl⟩
abbrev main_call2_call0_call0_v166 : Ref sig .tc := ⟨.hbm, 278, rfl⟩
abbrev main_call2_call0_call0_v167 : Ref sig .tc := ⟨.hbm, 279, rfl⟩
abbrev main_call2_call0_call0_v168 : Ref sig .tc := ⟨.hbm, 280, rfl⟩
abbrev main_call2_call0_call0_v169 : Ref sig .tc := ⟨.hbm, 281, rfl⟩
abbrev main_call2_call0_call0_v170 : Ref sig .tc := ⟨.hbm, 282, rfl⟩
abbrev main_call2_call0_v18_0 : Ref sig .tc := ⟨.hbm, 283, rfl⟩
abbrev main_call2_call0_call0_v172 : Ref sig .tc := ⟨.hbm, 284, rfl⟩
abbrev main_call2_call0_call0_v173 : Ref sig .tc := ⟨.hbm, 285, rfl⟩
abbrev main_call2_call0_call0_c_44 : Ref sig .tc := ⟨.hbm, 286, rfl⟩
abbrev main_call2_call0_call0_v174 : Ref sig .tc := ⟨.hbm, 287, rfl⟩
abbrev main_call2_call0_v18_1 : Ref sig .tc := ⟨.hbm, 288, rfl⟩
abbrev main_call2_call0_v19 : Ref sig .tc := ⟨.hbm, 289, rfl⟩
abbrev main_call2_call0_c_2 : Ref sig .tc := ⟨.hbm, 290, rfl⟩
abbrev main_call2_call0_v20 : Ref sig .tc := ⟨.hbm, 291, rfl⟩
abbrev main_call2_call0_v21 : Ref sig .tc := ⟨.hbm, 292, rfl⟩
abbrev main_call2_call0_c_3 : Ref sig .tc := ⟨.hbm, 293, rfl⟩
abbrev main_call2_call0_v22 : Ref sig .tc := ⟨.hbm, 294, rfl⟩
abbrev main_call2_call0_v23 : Ref sig .tc := ⟨.hbm, 295, rfl⟩
abbrev main_call2_call0_v24 : Ref sig .tc := ⟨.hbm, 296, rfl⟩
abbrev main_call2_call0_cst : Ref sig .tc := ⟨.hbm, 297, rfl⟩
abbrev main_call2_call0_v25 : Ref sig .tc := ⟨.hbm, 298, rfl⟩
abbrev main_call2_call0_v26 : Ref sig .tc := ⟨.hbm, 299, rfl⟩
abbrev main_call2_call0_v27 : Ref sig .tc := ⟨.hbm, 300, rfl⟩
abbrev main_call2_call0_v28 : Ref sig .tc := ⟨.hbm, 301, rfl⟩
abbrev main_call2_call0_v29 : Ref sig .tc := ⟨.hbm, 302, rfl⟩
abbrev main_call2_call0_v30 : Ref sig .tc := ⟨.hbm, 303, rfl⟩
abbrev main_call2_call0_v31 : Ref sig .tc := ⟨.hbm, 304, rfl⟩
abbrev main_call2_call0_v32 : Ref sig .tc := ⟨.hbm, 305, rfl⟩
abbrev main_call2_v0 : Ref sig .tc := ⟨.hbm, 306, rfl⟩
abbrev main_call2_v1 : Ref sig .tc := ⟨.hbm, 307, rfl⟩
abbrev main_call2_v2 : Ref sig .tc := ⟨.hbm, 308, rfl⟩
abbrev main_call2_v3 : Ref sig .tc := ⟨.hbm, 309, rfl⟩
abbrev main_v29 : Ref sig .tc := ⟨.hbm, 310, rfl⟩
abbrev main_v30 : Ref sig .tc := ⟨.hbm, 311, rfl⟩
abbrev main_call3_v0 : Ref sig .tc := ⟨.hbm, 312, rfl⟩
abbrev main_call3_cst : Ref sig .tc := ⟨.hbm, 313, rfl⟩
abbrev main_call3_c : Ref sig .tc := ⟨.hbm, 314, rfl⟩
abbrev main_call3_v1_0 : Ref sig .tc := ⟨.hbm, 315, rfl⟩
abbrev main_v31 : Ref sig .tc := ⟨.hbm, 316, rfl⟩
abbrev main_cst_7 : Ref sig .tc := ⟨.hbm, 317, rfl⟩
abbrev main_v32 : Ref sig .tc := ⟨.hbm, 318, rfl⟩
abbrev main_v33 : Ref sig .tc := ⟨.hbm, 319, rfl⟩
abbrev main_v34 : Ref sig .tc := ⟨.hbm, 320, rfl⟩

abbrev nD : Nat := 1
abbrev τ : Topo := Topo.v7x

variable {F : FTy → Type} [FloatOps F]
-- ==== Proof.PreFacts.lean ====
module

public import proofs.«01_k».proof.Defs

/-!
# The side conditions of the precondition's operations

The precondition is a pure function; the shapes its operations are used at satisfy their side conditions.
-/

@[expose] public section

set_option maxRecDepth 65536

namespace Cert.Pre_finite_with_clear_winners

open Idealize.ShloMosaic

/-- The side conditions stated with the precondition. -/
instance facts : Facts where
  bcast_S_S32 := by decide
  bcast_S32_S32x1_0 := by decide
  bcast_S32x1_S32x1000000_0_1 := by decide
  bcast_S_S1 := by decide
  concatenates_S1_S1_S2_d0 := by decide
  bcast_S_S1x1 := by decide
  slices_S2_S1_0 := by decide
  shapeCasts_S1_S_ := by decide
  slices_S2_S1_1 := by decide
  bcast_S_S32x1000000 := by decide
  natLt_32_64 := by decide
  bcast_S1x1_S32x1000000_0_1 := by decide
  bcast_S1000000_S1x1000000_1 := by decide
  bcast_S1x1000000_S32x1000000_0_1 := by decide
  reducesTo_S32x1000000_S32_d1 := by decide
  h_S_ := by decide

end Cert.Pre_finite_with_clear_winners
-- ==== Proof.Body.lean ====
module

public import proofs.«01_k».proof.Proof.Gen.KernelIdeal.Frame
public import proofs.«01_k».proof.Proof.Gen.KernelIdeal.Skeleton
public import Idealize.ShloMosaic.Lib.Tactic

/-!
# The kernel's body, run once for each kind of grid point

At a grid point the body reads the staging buffers of the temperatures (`M1`), of the noise offsets (`M2`), of the
block whose maximum it takes (`M3`) and of the block that it samples (`M4`); it owns the output's staging buffer
(`M5`) and four scratch buffers: the running block maximum and, for every block, its maximum, its best perturbed
score and that score's column. Which of the body's branches run depends on the point alone, in four ways: point 0
(`run_first`), points 1 to 29 (`run_mid`), point 30 (`run_edge`) and point 31 (`run_last`). Each run is stated for
any float values and any contents, and gives the contents of what the body writes as terms over those it found.
-/

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`; -/
abbrev Bf (c : Dev nD) {sp : Space} {S : Shape} {e : EltTy} (M : Memref sig .tc sp S e) : Type :=
  Buf (Elt F) (M.view.loc (c : Thread nD τ))
/-- that buffer held whole at contents `f`. -/
abbrev pt (c : Dev nD) {sp : Space} {S : Shape} {e : EltTy} (M : Memref sig .tc sp S e) (f : Bf (F := F) c M) :
    sProp 𝕄 :=
  M.view.loc (c : Thread nD τ) ↦{fullShare} f

/-- The four scratch buffers: the block maximum just taken, -/
abbrev A6 : Memref sig .tc .vmem S32x1 .f32 := Memref.whole cc0_scratch0
/-- every block's maximum, -/
abbrev A7 : Memref sig .tc .vmem S31x32x1 .f32 := Memref.whole cc0_scratch1
/-- every block's best perturbed score, -/
abbrev A8 : Memref sig .tc .vmem S31x32x1 .f32 := Memref.whole cc0_scratch2
/-- and that score's column. -/
abbrev A9 : Memref sig .tc .vmem S31x32x1 .i32 := Memref.whole cc0_scratch3

/-- The body on these buffers. -/
abbrev bodyOn (i : grid0.Coords)
    (M1 : Memref sig .tc .vmem S32x1 .f32) (h1 : M1.IsWhole) (M2 : Memref sig .tc .vmem S32x1 .i32) (h2 : M2.IsWhole)
    (M3 : Memref sig .tc .vmem S32x32768 .f32) (h3 : M3.IsWhole) (M4 : Memref sig .tc .vmem S32x32768 .f32)
    (h4 : M4.IsWhole) (M5 : Memref sig .tc .vmem S32x1 .i32) (h5 : M5.IsWhole) :
    Prog (TpuEff nD τ sig (Elt F) Λ₀ .tc) PUnit :=
  cc0__body i M1 h1 M2 h2 M3 h3 M4 h4 M5 h5 A6 (Memref.isWhole_whole _) A7 (Memref.isWhole_whole _)
    A8 (Memref.isWhole_whole _) A9 (Memref.isWhole_whole _)

/-! The conditions of the body's branches, as it computes them from the grid point. -/

/-- The point is 0; -/
abbrev c1 (i : grid0.Coords) : BitVec 1 :=
  Scalar.cmpi .ne (Scalar.extui (Scalar.cmpi .eq (BitVec.ofNat 32 (i 0).val) 0#32) : BitVec 32) 0#32
/-- it is below 31; -/
abbrev c5 (i : grid0.Coords) : BitVec 1 :=
  Scalar.cmpi .ne (Scalar.extui (Scalar.cmpi .slt (BitVec.ofNat 32 (i 0).val) 31#32) : BitVec 32) 0#32
/-- it is not 30; -/
abbrev c6 (i : grid0.Coords) : BitVec 1 :=
  Scalar.cmpi .ne (Scalar.extui (Scalar.cmpi .ne (BitVec.ofNat 32 (i 0).val) 30#32) : BitVec 32) 0#32
/-- it is 30. -/
abbrev c7 (i : grid0.Coords) : BitVec 1 :=
  Scalar.cmpi .ne (Scalar.extui (Scalar.cmpi .eq (BitVec.ofNat 32 (i 0).val) 30#32) : BitVec 32) 0#32

/-- Point 0: the scratch columns are set to their starting values and the first block's maximum is taken. -/
noncomputable def run_first (c : Dev nD) (i : grid0.Coords)
    (M1 : Memref sig .tc .vmem S32x1 .f32) (h1 : M1.IsWhole) (M2 : Memref sig .tc .vmem S32x1 .i32) (h2 : M2.IsWhole)
    (M3 : Memref sig .tc .vmem S32x32768 .f32) (h3 : M3.IsWhole) (M4 : Memref sig .tc .vmem S32x32768 .f32)
    (h4 : M4.IsWhole) (M5 : Memref sig .tc .vmem S32x1 .i32) (h5 : M5.IsWhole)
    (hc1 : c1 i = 1#1) (hk0_cond2 : ¬ (k0_cond2 i = 1#1)) (hc5 : c5 i = 1#1) (hc6 : c6 i = 1#1) (hc7 : ¬ (c7 i = 1#1)) (hk0_cond8 : ¬ (k0_cond8 i = 1#1))
    (f1 : Bf (F := F) c M1) (f2 : Bf (F := F) c M2) (f3 : Bf (F := F) c M3) (f4 : Bf (F := F) c M4)
    (f5 : Bf (F := F) c M5) (f6 : Bf (F := F) c A6) (f7 : Bf (F := F) c A7) (f8 : Bf (F := F) c A8)
    (f9 : Bf (F := F) c A9) :
    { W : Bf (F := F) c M5 × Bf (F := F) c A6 × Bf (F := F) c A7 × Bf (F := F) c A8 × Bf (F := F) c A9 //
      ∀ (E : Set ℕ) (Q : PUnit → sProp 𝕄),
        iprop(pt c M1 f1 ∗ pt c M2 f2 ∗ pt c M3 f3 ∗ pt c M4 f4 ∗ pt c M5 f5 ∗ pt c A6 f6 ∗ pt c A7 f7 ∗ pt c A8 f8
          ∗ pt c A9 f9
          ∗ (iprop(pt c M1 f1 ∗ pt c M2 f2 ∗ pt c M3 f3 ∗ pt c M4 f4 ∗ pt c M5 W.1 ∗ pt c A6 W.2.1 ∗ pt c A7 W.2.2.1
            ∗ pt c A8 W.2.2.2.1 ∗ pt c A9 W.2.2.2.2) -∗ Q ⟨⟩))
        ⊢ wp frame (wpE (defs₀ (F := F)) Variants.none c none) E (bodyOn i M1 h1 M2 h2 M3 h3 M4 h4 M5 h5) Q } := by
  refine ⟨⟨?_, ?_, ?_, ?_, ?_⟩, fun E Q => ?run⟩
  case run =>
    iintro ⟨H1, H2, H3, H4, H5, H6, H7, H8, H9, Hk⟩
    sl_exec_parts (disch := first | sl_exact hc1 | sl_exact hk0_cond2 | sl_exact hc5 | sl_exact hc6 | sl_exact hc7 | sl_exact hk0_cond8)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- Points 1 to 29: the block before is sampled, its results are stored, and this block's maximum is taken. -/
noncomputable def run_mid (c : Dev nD) (i : grid0.Coords)
    (M1 : Memref sig .tc .vmem S32x1 .f32) (h1 : M1.IsWhole) (M2 : Memref sig .tc .vmem S32x1 .i32) (h2 : M2.IsWhole)
    (M3 : Memref sig .tc .vmem S32x32768 .f32) (h3 : M3.IsWhole) (M4 : Memref sig .tc .vmem S32x32768 .f32)
    (h4 : M4.IsWhole) (M5 : Memref sig .tc .vmem S32x1 .i32) (h5 : M5.IsWhole)
    (hc1 : ¬ (c1 i = 1#1)) (hk0_cond2 : k0_cond2 i = 1#1) (hk0_cond3 : k0_cond3 i = 1#1) (hk0_cond4 : ¬ (k0_cond4 i = 1#1)) (hc5 : c5 i = 1#1) (hc6 : c6 i = 1#1) (hc7 : ¬ (c7 i = 1#1)) (hk0_cond8 : ¬ (k0_cond8 i = 1#1))
    (f1 : Bf (F := F) c M1) (f2 : Bf (F := F) c M2) (f3 : Bf (F := F) c M3) (f4 : Bf (F := F) c M4)
    (f5 : Bf (F := F) c M5) (f6 : Bf (F := F) c A6) (f7 : Bf (F := F) c A7) (f8 : Bf (F := F) c A8)
    (f9 : Bf (F := F) c A9) :
    { W : Bf (F := F) c M5 × Bf (F := F) c A6 × Bf (F := F) c A7 × Bf (F := F) c A8 × Bf (F := F) c A9 //
      ∀ (E : Set ℕ) (Q : PUnit → sProp 𝕄),
        iprop(pt c M1 f1 ∗ pt c M2 f2 ∗ pt c M3 f3 ∗ pt c M4 f4 ∗ pt c M5 f5 ∗ pt c A6 f6 ∗ pt c A7 f7 ∗ pt c A8 f8
          ∗ pt c A9 f9
          ∗ (iprop(pt c M1 f1 ∗ pt c M2 f2 ∗ pt c M3 f3 ∗ pt c M4 f4 ∗ pt c M5 W.1 ∗ pt c A6 W.2.1 ∗ pt c A7 W.2.2.1
            ∗ pt c A8 W.2.2.2.1 ∗ pt c A9 W.2.2.2.2) -∗ Q ⟨⟩))
        ⊢ wp frame (wpE (defs₀ (F := F)) Variants.none c none) E (bodyOn i M1 h1 M2 h2 M3 h3 M4 h4 M5 h5) Q } := by
  refine ⟨⟨?_, ?_, ?_, ?_, ?_⟩, fun E Q => ?run⟩
  case run =>
    iintro ⟨H1, H2, H3, H4, H5, H6, H7, H8, H9, Hk⟩
    sl_exec_parts (disch := first | sl_exact hc1 | sl_exact hk0_cond2 | sl_exact hk0_cond3 | sl_exact hk0_cond4 | sl_exact hc5 | sl_exact hc6 | sl_exact hc7 | sl_exact hk0_cond8)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- Point 30: as at the points before, with the last block's maximum taken over its columns inside the vocabulary. -/
noncomputable def run_edge (c : Dev nD) (i : grid0.Coords)
    (M1 : Memref sig .tc .vmem S32x1 .f32) (h1 : M1.IsWhole) (M2 : Memref sig .tc .vmem S32x1 .i32) (h2 : M2.IsWhole)
    (M3 : Memref sig .tc .vmem S32x32768 .f32) (h3 : M3.IsWhole) (M4 : Memref sig .tc .vmem S32x32768 .f32)
    (h4 : M4.IsWhole) (M5 : Memref sig .tc .vmem S32x1 .i32) (h5 : M5.IsWhole)
    (hc1 : ¬ (c1 i = 1#1)) (hk0_cond2 : k0_cond2 i = 1#1) (hk0_cond3 : k0_cond3 i = 1#1) (hk0_cond4 : ¬ (k0_cond4 i = 1#1)) (hc5 : c5 i = 1#1) (hc6 : ¬ (c6 i = 1#1)) (hc7 : c7 i = 1#1) (hk0_cond8 : ¬ (k0_cond8 i = 1#1))
    (f1 : Bf (F := F) c M1) (f2 : Bf (F := F) c M2) (f3 : Bf (F := F) c M3) (f4 : Bf (F := F) c M4)
    (f5 : Bf (F := F) c M5) (f6 : Bf (F := F) c A6) (f7 : Bf (F := F) c A7) (f8 : Bf (F := F) c A8)
    (f9 : Bf (F := F) c A9) :
    { W : Bf (F := F) c M5 × Bf (F := F) c A6 × Bf (F := F) c A7 × Bf (F := F) c A8 × Bf (F := F) c A9 //
      ∀ (E : Set ℕ) (Q : PUnit → sProp 𝕄),
        iprop(pt c M1 f1 ∗ pt c M2 f2 ∗ pt c M3 f3 ∗ pt c M4 f4 ∗ pt c M5 f5 ∗ pt c A6 f6 ∗ pt c A7 f7 ∗ pt c A8 f8
          ∗ pt c A9 f9
          ∗ (iprop(pt c M1 f1 ∗ pt c M2 f2 ∗ pt c M3 f3 ∗ pt c M4 f4 ∗ pt c M5 W.1 ∗ pt c A6 W.2.1 ∗ pt c A7 W.2.2.1
            ∗ pt c A8 W.2.2.2.1 ∗ pt c A9 W.2.2.2.2) -∗ Q ⟨⟩))
        ⊢ wp frame (wpE (defs₀ (F := F)) Variants.none c none) E (bodyOn i M1 h1 M2 h2 M3 h3 M4 h4 M5 h5) Q } := by
  refine ⟨⟨?_, ?_, ?_, ?_, ?_⟩, fun E Q => ?run⟩
  case run =>
    iintro ⟨H1, H2, H3, H4, H5, H6, H7, H8, H9, Hk⟩
    sl_exec_parts (disch := first | sl_exact hc1 | sl_exact hk0_cond2 | sl_exact hk0_cond3 | sl_exact hk0_cond4 | sl_exact hc5 | sl_exact hc6 | sl_exact hc7 | sl_exact hk0_cond8)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- Point 31: the last block is sampled over its columns inside the vocabulary, and the blocks' results are merged. -/
noncomputable def run_last (c : Dev nD) (i : grid0.Coords)
    (M1 : Memref sig .tc .vmem S32x1 .f32) (h1 : M1.IsWhole) (M2 : Memref sig .tc .vmem S32x1 .i32) (h2 : M2.IsWhole)
    (M3 : Memref sig .tc .vmem S32x32768 .f32) (h3 : M3.IsWhole) (M4 : Memref sig .tc .vmem S32x32768 .f32)
    (h4 : M4.IsWhole) (M5 : Memref sig .tc .vmem S32x1 .i32) (h5 : M5.IsWhole)
    (hc1 : ¬ (c1 i = 1#1)) (hk0_cond2 : k0_cond2 i = 1#1) (hk0_cond3 : ¬ (k0_cond3 i = 1#1)) (hk0_cond4 : k0_cond4 i = 1#1) (hc5 : ¬ (c5 i = 1#1)) (hk0_cond8 : k0_cond8 i = 1#1) (hoff : k0_off2 i = ![30, 0, 0])
    (f1 : Bf (F := F) c M1) (f2 : Bf (F := F) c M2) (f3 : Bf (F := F) c M3) (f4 : Bf (F := F) c M4)
    (f5 : Bf (F := F) c M5) (f6 : Bf (F := F) c A6) (f7 : Bf (F := F) c A7) (f8 : Bf (F := F) c A8)
    (f9 : Bf (F := F) c A9) :
    { W : Bf (F := F) c M5 × Bf (F := F) c A6 × Bf (F := F) c A7 × Bf (F := F) c A8 × Bf (F := F) c A9 //
      ∀ (E : Set ℕ) (Q : PUnit → sProp 𝕄),
        iprop(pt c M1 f1 ∗ pt c M2 f2 ∗ pt c M3 f3 ∗ pt c M4 f4 ∗ pt c M5 f5 ∗ pt c A6 f6 ∗ pt c A7 f7 ∗ pt c A8 f8
          ∗ pt c A9 f9
          ∗ (iprop(pt c M1 f1 ∗ pt c M2 f2 ∗ pt c M3 f3 ∗ pt c M4 f4 ∗ pt c M5 W.1 ∗ pt c A6 W.2.1 ∗ pt c A7 W.2.2.1
            ∗ pt c A8 W.2.2.2.1 ∗ pt c A9 W.2.2.2.2) -∗ Q ⟨⟩))
        ⊢ wp frame (wpE (defs₀ (F := F)) Variants.none c none) E (bodyOn i M1 h1 M2 h2 M3 h3 M4 h4 M5 h5) Q } := by
  refine ⟨⟨?_, ?_, ?_, ?_, ?_⟩, fun E Q => ?run⟩
  case run =>
    letI : ClosedOff (k0_off2 i) := ⟨![30, 0, 0], hoff⟩
    iintro ⟨H1, H2, H3, H4, H5, H6, H7, H8, H9, Hk⟩
    sl_exec_parts (disch := first | sl_exact hc1 | sl_exact hk0_cond2 | sl_exact hk0_cond3 | sl_exact hk0_cond4 | sl_exact hc5 | sl_exact hk0_cond8)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.KernelIdeal.Body

end
-- ==== Proof.Points.lean ====
module

public import proofs.«01_k».proof.Proof.Body

/-!
# Which branches run at which grid point

The grid has 32 points. The conditions that the body computes from its grid point, at point 0, at points 1 to 29, at
point 30 and at point 31; and the row of the scratch columns that each point reads and writes.
-/

@[expose] public section

set_option maxRecDepth 65536

noncomputable section

namespace Cert.KernelIdeal.Body

open Cert.KernelIdeal Cert.KernelIdeal.Gen
open Idealize.ShloMosaic Idealize.ShloMosaic.TcCoe

/-- The conditions at point 0. -/
theorem conds_first : ∀ t : Fin grid0.N, t.val = 0 →
    c1 (grid0.coords t) = 1#1 ∧ ¬ (k0_cond2 (grid0.coords t) = 1#1) ∧ c5 (grid0.coords t) = 1#1
      ∧ c6 (grid0.coords t) = 1#1 ∧ ¬ (c7 (grid0.coords t) = 1#1) ∧ ¬ (k0_cond8 (grid0.coords t) = 1#1) := by
  decide +kernel

/-- The conditions at points 1 to 29. -/
theorem conds_mid : ∀ t : Fin grid0.N, 0 < t.val → t.val < 30 →
    ¬ (c1 (grid0.coords t) = 1#1) ∧ k0_cond2 (grid0.coords t) = 1#1 ∧ k0_cond3 (grid0.coords t) = 1#1
      ∧ ¬ (k0_cond4 (grid0.coords t) = 1#1) ∧ c5 (grid0.coords t) = 1#1
      ∧ c6 (grid0.coords t) = 1#1 ∧ ¬ (c7 (grid0.coords t) = 1#1) ∧ ¬ (k0_cond8 (grid0.coords t) = 1#1) := by
  decide +kernel

/-- The conditions at point 30. -/
theorem conds_edge : ∀ t : Fin grid0.N, t.val = 30 →
    ¬ (c1 (grid0.coords t) = 1#1) ∧ k0_cond2 (grid0.coords t) = 1#1 ∧ k0_cond3 (grid0.coords t) = 1#1
      ∧ ¬ (k0_cond4 (grid0.coords t) = 1#1) ∧ c5 (grid0.coords t) = 1#1
      ∧ ¬ (c6 (grid0.coords t) = 1#1) ∧ c7 (grid0.coords t) = 1#1 ∧ ¬ (k0_cond8 (grid0.coords t) = 1#1) := by
  decide +kernel

/-- The conditions at point 31, and the row of the scratch columns that it writes. -/
theorem conds_last : ∀ t : Fin grid0.N, t.val = 31 →
    ¬ (c1 (grid0.coords t) = 1#1) ∧ k0_cond2 (grid0.coords t) = 1#1 ∧ ¬ (k0_cond3 (grid0.coords t) = 1#1)
      ∧ k0_cond4 (grid0.coords t) = 1#1 ∧ ¬ (c5 (grid0.coords t) = 1#1)
      ∧ k0_cond8 (grid0.coords t) = 1#1 ∧ k0_off2 (grid0.coords t) = ![30, 0, 0] := by
  decide +kernel

end Cert.KernelIdeal.Body

end
-- ==== Proof.Frames.lean ====
module

public import proofs.«01_k».proof.Proof.Points
public import Idealize.ShloMosaic.Lib.WholeRead

/-!
# The kernel runs to completion and leaves its arguments alone

The body's run at any grid point from any contents, the pipeline's launch around it, and what it says of the two
argument arrays and of the semaphores: for any float values and any inputs.
-/

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- At every grid point the body runs from any contents, and leaves its inputs' staging buffers as it found them. -/
theorem run_any (c : Dev nD) (t : Fin grid0.N)
    (M1 : Memref sig .tc .vmem S32x1 .f32) (h1 : M1.IsWhole) (M2 : Memref sig .tc .vmem S32x1 .i32) (h2 : M2.IsWhole)
    (M3 : Memref sig .tc .vmem S32x32768 .f32) (h3 : M3.IsWhole) (M4 : Memref sig .tc .vmem S32x32768 .f32)
    (h4 : M4.IsWhole) (M5 : Memref sig .tc .vmem S32x1 .i32) (h5 : M5.IsWhole)
    (f1 : Bf (F := F) c M1) (f2 : Bf (F := F) c M2) (f3 : Bf (F := F) c M3) (f4 : Bf (F := F) c M4)
    (f5 : Bf (F := F) c M5) (f6 : Bf (F := F) c A6) (f7 : Bf (F := F) c A7) (f8 : Bf (F := F) c A8)
    (f9 : Bf (F := F) c A9) :
    ∃ W : Bf (F := F) c M5 × Bf (F := F) c A6 × Bf (F := F) c A7 × Bf (F := F) c A8 × Bf (F := F) c A9,
      ∀ (E : Set ℕ) (Q : PUnit → sProp 𝕄),
        iprop(pt c M1 f1 ∗ pt c M2 f2 ∗ pt c M3 f3 ∗ pt c M4 f4 ∗ pt c M5 f5 ∗ pt c A6 f6 ∗ pt c A7 f7 ∗ pt c A8 f8
          ∗ pt c A9 f9
          ∗ (iprop(pt c M1 f1 ∗ pt c M2 f2 ∗ pt c M3 f3 ∗ pt c M4 f4 ∗ pt c M5 W.1 ∗ pt c A6 W.2.1 ∗ pt c A7 W.2.2.1
            ∗ pt c A8 W.2.2.2.1 ∗ pt c A9 W.2.2.2.2) -∗ Q ⟨⟩))
        ⊢ wp frame (wpE (defs₀ (F := F)) Variants.none c none) E (bodyOn (grid0.coords t) M1 h1 M2 h2 M3 h3 M4 h4 M5 h5) Q := by
  have hN : t.val < 32 := lt_of_lt_of_eq t.isLt N_0
  rcases Nat.eq_zero_or_pos t.val with h | h
  · obtain ⟨a, b, d, e, f, g⟩ := conds_first t h
    exact ⟨_, (run_first c _ M1 h1 M2 h2 M3 h3 M4 h4 M5 h5 a b d e f g f1 f2 f3 f4 f5 f6 f7 f8 f9).2⟩
  rcases Nat.lt_or_ge t.val 30 with h' | h'
  · obtain ⟨a, b, d, e, f, g, j, k⟩ := conds_mid t h h'
    exact ⟨_, (run_mid c _ M1 h1 M2 h2 M3 h3 M4 h4 M5 h5 a b d e f g j k f1 f2 f3 f4 f5 f6 f7 f8 f9).2⟩
  rcases Nat.lt_or_ge t.val 31 with h'' | h''
  · obtain ⟨a, b, d, e, f, g, j, k⟩ := conds_edge t (by omega)
    exact ⟨_, (run_edge c _ M1 h1 M2 h2 M3 h3 M4 h4 M5 h5 a b d e f g j k f1 f2 f3 f4 f5 f6 f7 f8 f9).2⟩
  · obtain ⟨a, b, d, e, f, g, j⟩ := conds_last t (by omega)
    exact ⟨_, (run_last c _ M1 h1 M2 h2 M3 h3 M4 h4 M5 h5 a b d e f g j f1 f2 f3 f4 f5 f6 f7 f8 f9).2⟩

variable (m : (ℓ : Loc nD τ sig) → Buf (Elt F) ℓ)

/-- The launch's data when nothing is said of what the staging buffers hold: the arrays as the region finds them, the
    scratch buffers at anything. -/
def anyDats (p : Fin 1) (c : Dev nD) : Dat τ (Elt F) Unit ℕ (UR sig nD τ) ℕ (cfgs p) c :=
  match p with
  | 0 => { A := fun w => V m c (Pipeline.arrRef spec0 w)
           after := fun _ _ _ => Classical.arbitrary _
           Φ := fun _ => Pipeline.ΦA spec0 c
           q := fun w => Pipeline.shareOf spec0 w
           owed := fun _ => 0 }
  | ⟨_ + 1, h⟩ => absurd h (Nat.not_lt.2 (Nat.le_add_left _ _))

/-- No window's contents are named. -/
abbrev allForgotten : Fin cfg0.W → Bool := fun _ => true

/-- The body's obligation at every point, nothing said of contents. -/
theorem any_obligation (c : Dev nD) :
    BodyObligationLoose (anyDats m 0 c) (defs₀ (F := F)) Variants.none () Set.univ allForgotten := fun t => by
  rw [bigSep_W0]
  have e : ∀ (w : Fin cfg0.W), (iprop(∃ X, owns (c : Thread nD τ) ((cfg0.win w).stage (cfg0.slots t w)) fullShare X) : sProp 𝕄)
      = iprop(∃ f : Bf (F := F) c ((cfg0.win w).stage (cfg0.slots t w)), pt c ((cfg0.win w).stage (cfg0.slots t w)) f) :=
    fun w => (stage_whole0 w (cfg0.slots t w)).exists_owns_eq fullShare
  show iprop(Pipeline.ΦA spec0 c ∗ (anyDats m 0 c).owesAt () t.castSucc
      ∗ (∃ X, owns (c : Thread nD τ) ((cfg0.win 0).stage (cfg0.slots t 0)) fullShare X)
      ∗ (∃ X, owns (c : Thread nD τ) ((cfg0.win 1).stage (cfg0.slots t 1)) fullShare X)
      ∗ (∃ X, owns (c : Thread nD τ) ((cfg0.win 2).stage (cfg0.slots t 2)) fullShare X)
      ∗ (∃ X, owns (c : Thread nD τ) ((cfg0.win 3).stage (cfg0.slots t 3)) fullShare X)
      ∗ (∃ X, owns (c : Thread nD τ) ((cfg0.win 4).stage (cfg0.slots t 4)) fullShare X))
    ⊢ wp frame (wpE (defs₀ (F := F)) Variants.none c none) Set.univ (bodyAt0 t) fun _ =>
      iprop(Pipeline.ΦA spec0 c ∗ (anyDats m 0 c).owesAt () t.castSucc
      ∗ (∃ X, owns (c : Thread nD τ) ((cfg0.win 0).stage (cfg0.slots t 0)) fullShare X)
      ∗ (∃ X, owns (c : Thread nD τ) ((cfg0.win 1).stage (cfg0.slots t 1)) fullShare X)
      ∗ (∃ X, owns (c : Thread nD τ) ((cfg0.win 2).stage (cfg0.slots t 2)) fullShare X)
      ∗ (∃ X, owns (c : Thread nD τ) ((cfg0.win 3).stage (cfg0.slots t 3)) fullShare X)
      ∗ (∃ X, owns (c : Thread nD τ) ((cfg0.win 4).stage (cfg0.slots t 4)) fullShare X))
  rw [e 0, e 1, e 2, e 3, e 4]
  unfold Pipeline.ΦA
  rw [scopedRest0_eq]
  iintro ⟨⟨⟨⟨%f6, H6⟩, ⟨%f7, H7⟩, ⟨%f8, H8⟩, ⟨%f9, H9⟩⟩, Hg⟩, Ho, ⟨%f1, H1⟩, ⟨%f2, H2⟩, ⟨%f3, H3⟩, ⟨%f4, H4⟩, ⟨%f5, H5⟩⟩
  obtain ⟨W, hW⟩ := run_any (F := F) c t (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) f1 f2 f3 f4 f5 f6 f7 f8 f9
  iapply (hW Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  isplitl [H6 H7 H8 H9 Hg]
  · isplitl [H6 H7 H8 H9]
    · isplitl [H6]; · iexists _; iexact H6
      isplitl [H7]; · iexists _; iexact H7
      isplitl [H8]; · iexists _; iexact H8
      iexists _; iexact H9
    · iexact Hg
  isplitl [Ho]; · iexact Ho
  isplitl [H1]; · iexists _; iexact H1
  isplitl [H2]; · iexists _; iexact H2
  isplitl [H3]; · iexists _; iexact H3
  isplitl [H4]; · iexists _; iexact H4
  iexists _; iexact H5

/-- The kernel runs to completion from any memory, its two arguments end as they were, and no semaphore is left up. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_around_T_track_forget_shared cfgs (anyDats m) 0 launch₀0 defs₀ Variants.none allForgotten {main_v2} m ρ main
    (any_obligation m) (fun _ _ _ => rfl) (fun _ _ => rfl) (V0 m) [hostOps1] sfx_sub sfx_fresh sfx_keeps
    (by
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      simpa using Proc.devRef_injective _ hb)
    (hmain m Variants.none) (fun _ _ => rfl) (fun _ => .rfl) (fun _ => .rfl) _
    (fun r h => ⟨fun c => ⟨(Pipeline.RDat.FramePostR.arr_in h.1 c 3 rfl).trans (V_main_arg0 m c),
      ((h.1 c).2 main_arg1 (Finset.mem_sdiff.2 ⟨Pipeline.mem_restRefs_of main_arg1 (by decide) (by decide), by decide⟩)).trans (V_main_arg1 m c)⟩, h.2⟩)

end Cert.KernelIdeal.Body

end
-- ==== Proof.RefLine.lean ====
module

public import proofs.«01_k».proof.Defs
public import proofs.«01_k».proof.Proof.Gen.ReferenceIdeal
public import Idealize.ShloMosaic.Lib.Claim

/-!
# The reference as a list of host operations

The reference's `main` is a straight line of host operations; `line` is that list with the proof that it is.
-/

@[expose] public section

set_option maxRecDepth 65536

noncomputable section

namespace Cert.ReferenceIdeal.Line

open Cert.ReferenceIdeal Cert.ReferenceIdeal.Gen
open Idealize.ShloMosaic Idealize.ShloMosaic.TcCoe Idealize.SL.Sem

set_option maxHeartbeats 0 in
/-- The reference's operations, in order. -/
def line : { ops : List (HloOp τ sig (Elt Ideal)) // ∀ d, StableHlo.IsSeq (main (F := Ideal) d) ops } := by
  apply Subtype.mk
  hlo_seq

end Cert.ReferenceIdeal.Line

end
-- ==== Proof.RefFrame.lean ====
module

public import proofs.«01_k».proof.Proof.RefLine
public import Idealize.ShloMosaic.Lib.Quiescent
public import Idealize.ShloMosaic.Lib.StableHlo.RunRead

/-!
# The reference runs to completion and leaves its arguments alone
-/

@[expose] public section

set_option maxRecDepth 65536

noncomputable section

namespace Cert.ReferenceIdeal.Line

open Cert.ReferenceIdeal Cert.ReferenceIdeal.Gen
open Idealize.ShloMosaic Idealize.ShloMosaic.TcCoe Idealize.SL.Sem

set_option maxHeartbeats 0 in
/-- No operation writes the first argument. -/
theorem arg0_kept (V : Valuation τ sig (Elt Ideal)) :
    StableHlo.after line.1 V (Proc.devRef .tc main_arg0) = V (Proc.devRef .tc main_arg0) := by
  dsimp only [line]; after_reads_simp

set_option maxHeartbeats 0 in
/-- No operation writes the second argument. -/
theorem arg1_kept (V : Valuation τ sig (Elt Ideal)) :
    StableHlo.after line.1 V (Proc.devRef .tc main_arg1) = V (Proc.devRef .tc main_arg1) := by
  dsimp only [line]; after_reads_simp

set_option maxHeartbeats 0 in
/-- Every buffer after the reference's run is what the list of operations makes of the launch contents. -/
theorem run_line (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = StableHlo.after line.1 (StableHlo.launchContents m d) (Proc.devRef .tc b) :=
  StableHlo.run_hlo _ _ line.2 (by decide) (by decide)
    (by dsimp only [line]; simp)
    (by dsimp only [line]; intro _ h; (repeat (cases h with | head => rfl | tail _ h => ?_)); exact nomatch h) m ρ

/-- The reference's frame: from any memory it runs to completion with its arguments as they were and every semaphore
    counter at zero. -/
theorem frame_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 := by
  refine θ_run_mono (run_line m ρ) fun r h => ⟨fun c => ⟨?_, ?_⟩, sem_eq_zero_of_no_sems (by decide) r.2⟩
  · rw [h c main_arg0]; exact arg0_kept _
  · rw [h c main_arg1]; exact arg1_kept _

end Cert.ReferenceIdeal.Line

end
-- ==== Proof.Chunk.lean ====
module

public import proofs.«01_k».proof.Proof.Body

/-!
# What one grid point stores, in short terms

The body samples a block of 32768 columns in sixteen chunks of 2048. `hash` is the generator's mixing of a vector of
counters, `gumbel` the noise made of it, `step` the update of a running best score and its column by one chunk, and
`sampled n` the running best after `n` chunks. The theorems `first_eq`, `mid_eq`, `edge_eq` and `last_eq` say that the
four runs of Body.lean store exactly these.
-/

@[expose] public section

set_option maxRecDepth 65536

noncomputable section

namespace Cert.KernelIdeal.Chunk

open Cert.KernelIdeal Cert.KernelIdeal.Gen Cert.KernelIdeal.Body
open Idealize.ShloMosaic Idealize.ShloMosaic.TcCoe Idealize.ShloMosaic.Tactic

variable {F : FTy → Type} [FloatOps F]

/-- A chunk of words. -/
abbrev Words : Type := IVec S32x2048 32

/-- One word for every place of a chunk. -/
abbrev all (w : BitVec 32) : Words := broadcast S32x2048 w

/-- One mixing round, rotating by `r` to the left (`s` is 32 - `r`). -/
def mix (r s : BitVec 32) (x : Words × Words) : Words × Words :=
  (addi x.1 x.2, xori (ori (shli x.2 (all r)) (shrui x.2 (all s))) (addi x.1 x.2))

/-- The first round, both words being `x` after the key is added. -/
def opening (x : Words) : Words × Words :=
  (x, xori (ori (shli x (all 13#32)) (shrui x (all 19#32))) x)

/-- Adding a key to both words. -/
def key (a b : BitVec 32) (x : Words × Words) : Words × Words := (addi x.1 (all a), addi x.2 (all b))

/-- Adding a key to the second word alone. -/
def keySnd (b : BitVec 32) (x : Words × Words) : Words × Words := (x.1, addi x.2 (all b))

/-- The four rounds of the odd groups. -/
def roundsOdd (x : Words × Words) : Words × Words :=
  mix 6#32 26#32 (mix 26#32 6#32 (mix 15#32 17#32 (mix 13#32 19#32 x)))

/-- The four rounds of the even groups. -/
def roundsEven (x : Words × Words) : Words × Words :=
  mix 24#32 8#32 (mix 16#32 16#32 (mix 29#32 3#32 (mix 17#32 15#32 x)))

/-- The generator's five groups of rounds. -/
def hash (x : Words) : Words × Words :=
  key 466689008#32 5#32 (roundsOdd (key 42#32 466689012#32 (roundsEven (keySnd 45#32 (roundsOdd
    (key 466689008#32 2#32 (roundsEven (key 42#32 466689009#32
      (mix 6#32 26#32 (mix 26#32 6#32 (mix 15#32 17#32 (opening x))))))))))))

/-- Random bits as numbers between the least normal one and 1. -/
def uniform (y : Words × Words) : FVec F S32x2048 .f32 :=
  maximumf (subf (bitcastToFloat .f32 (ori (shrui (xori y.1 y.2) (all 9#32)) (all 1065353216#32)))
    (broadcast S32x2048 (Scalar.ofBits .f32 0x3F800000#32))) (broadcast S32x2048 (Scalar.ofBits .f32 0x00800000#32))

/-- The zero chunk. -/
def zeros : FVec F S32x2048 .f32 := broadcast S32x2048 (Scalar.ofBits .f32 0x00000000#32)

/-- The noise made of a chunk of counters. -/
def gumbel (x : Words) : FVec F S32x2048 .f32 := subf zeros (log (subf zeros (log (uniform (hash x)))))

/-- The columns of a chunk that starts at column `w`. -/
def cols (w : BitVec 32) : Words := addi (iota .tc S32x2048 32 [1] iota_S32x2048_d1_w32) (all w)

/-- A column of numbers, one for each row, along the chunk. -/
abbrev along {α : Type} (v : S32x1.Idx → α) : S32x2048.Idx → α := broadcastTo S32x2048 v broadcasts_S32x1_S32x2048

/-- The perturbed scores of a chunk `x`: the logits over the temperature `v17`, less the maximum `v24`, plus the noise
    at the scale `v22`. -/
def scores (v17 v22 v24 : FVec F S32x1 .f32) (offs : IVec S32x1 32) (w : BitVec 32) (x : FVec F S32x2048 .f32) :
    FVec F S32x2048 .f32 :=
  addf (subf (divf x (along v17)) (along v24)) (mulf (gumbel (addi (cols w) (along offs))) (along v22))

/-- Each row's greatest score. -/
def top (p : FVec F S32x2048 .f32) : FVec F S32x1 .f32 :=
  shapeCast S32x1 (multiReduction .maximumf [1] S32 p 0xFF800000#32 reduces_S32x2048_S32 (.inl rfl) rfl) shapeCasts_S32_S32x1

/-- The least column at which each row's greatest score stands. -/
def place (p : FVec F S32x2048 .f32) (c : Words) : IVec S32x1 32 :=
  shapeCast S32x1 (multiReductionI .minsi [1] S32 (select (cmpf .oeq p (along (top p))) c (all 2147483647#32))
    2147483647#32 reduces_S32x2048_S32 rfl) shapeCasts_S32_S32x1

/-- The running best score and its column, updated by a chunk. -/
def step (p : FVec F S32x2048 .f32) (c : Words) (b : FVec F S32x1 .f32 × IVec S32x1 32) :
    FVec F S32x1 .f32 × IVec S32x1 32 :=
  (select (cmpf .ogt (top p) b.1) (top p) b.1, select (cmpf .ogt (top p) b.1) (place p c) b.2)

/-- The column before the first of chunk `n`. -/
abbrev start (v26 : BitVec 32) (n : ℕ) : BitVec 32 := Scalar.addi v26 (BitVec.ofNat 32 (2048 * n))

/-- The running best after the first `n` chunks, `xs k` being chunk `k`'s logits and `v26` the block's first column. -/
def sampled (v17 v22 v24 : FVec F S32x1 .f32) (offs : IVec S32x1 32) (v26 : BitVec 32)
    (xs : BitVec 32 → ℕ → FVec F S32x2048 .f32) : ℕ → FVec F S32x1 .f32 × IVec S32x1 32
  | 0 => (broadcast S32x1 (Scalar.ofBits .f32 0xFF800000#32), broadcast S32x1 2147483647#32)
  | n + 1 => step (scores v17 v22 v24 offs (start v26 n) (xs (start v26 n) n)) (cols (start v26 n)) (sampled v17 v22 v24 offs v26 xs n)

/-- Chunk `n` (below 16) of a block is inside it. -/
theorem inside (n : ℕ) : ∀ a, (![0, 2048 * (n % 16)] : Fin 2 → ℕ) a + S32x2048.size a ≤ S32x32768.size a := by
  intro a
  have := Nat.mod_lt n (by decide : 16 > 0)
  fin_cases a
  · show 0 + 32 ≤ 32; omega
  · show 2048 * (n % 16) + 2048 ≤ 32768; omega

/-- Chunk `n` of the block held at `M4`. -/
def chunk (c : Dev nD) (M4 : Memref sig .tc .vmem S32x32768 .f32) (f4 : Bf (F := F) c M4) (n : ℕ) : FVec F S32x2048 .f32 :=
  View.readAt (Elt F) M4.view (Rect.unit (s := S32x32768) ![0, 2048 * (n % 16)] S32x2048.size (inside n)).toLoadRect f4

/-- The same, with -∞ at the columns past the last one. -/
def tail (x : FVec F S32x2048 .f32) (w : BitVec 32) : FVec F S32x2048 .f32 :=
  select (cmpi .slt (cols w) (all 1000000#32)) x (broadcast S32x2048 (Scalar.ofBits .f32 0xFF800000#32))

/-- The first column of the block that point `i` samples. -/
abbrev base (i : grid0.Coords) : BitVec 32 := Scalar.muli (Scalar.subi (BitVec.ofNat 32 (i 0).val) 1#32) 32768#32

variable (c : Dev nD) (i : grid0.Coords)
    (M1 : Memref sig .tc .vmem S32x1 .f32) (h1 : M1.IsWhole) (M2 : Memref sig .tc .vmem S32x1 .i32) (h2 : M2.IsWhole)
    (M3 : Memref sig .tc .vmem S32x32768 .f32) (h3 : M3.IsWhole) (M4 : Memref sig .tc .vmem S32x32768 .f32)
    (h4 : M4.IsWhole) (M5 : Memref sig .tc .vmem S32x1 .i32) (h5 : M5.IsWhole)
    (f1 : Bf (F := F) c M1) (f2 : Bf (F := F) c M2) (f3 : Bf (F := F) c M3) (f4 : Bf (F := F) c M4)
    (f5 : Bf (F := F) c M5) (f6 : Bf (F := F) c A6) (f7 : Bf (F := F) c A7) (f8 : Bf (F := F) c A8)
    (f9 : Bf (F := F) c A9)

/-- The whole of a column buffer, read. -/
abbrev read1 {e : EltTy} (M : Memref sig .tc .vmem S32x1 e) (f : Bf (F := F) c M) : S32x1.Idx → Elt F e :=
  View.readAt (Elt F) M.view (Rect.unit ![0, 0] S32x1.size inb_S32x1_S32x1_0_0).toLoadRect f

/-- The running best after all sixteen chunks of an inner block. -/
def sampledMid : FVec F S32x1 .f32 × IVec S32x1 32 :=
  sampled (k0_pay5 (read1 c M1 f1)) (k0_pay6 (read1 c M1 f1)) (k0_pay7 (read1 c M1 f1) (read1 c A6 f6)) (read1 c M2 f2)
    (base i) (fun _ n => chunk c M4 f4 n) 16

/-- The running best after all sixteen chunks of the last block. -/
def sampledLast : FVec F S32x1 .f32 × IVec S32x1 32 :=
  sampled (k0_pay5 (read1 c M1 f1)) (k0_pay6 (read1 c M1 f1)) (k0_pay7 (read1 c M1 f1) (read1 c A6 f6)) (read1 c M2 f2)
    (base i) (fun w n => tail (chunk c M4 f4 n) w) 16

/-- A column of numbers as one row of a stack of columns. -/
def cell {α : Type} (x : S32x1.Idx → α) : S1x32x1.Idx → α :=
  shapeCast S1x32x1 (shapeCast S1x32x1 x shapeCasts_S32x1_S1x32x1) shapeCasts_S1x32x1_S1x32x1

/-- A column stored over the whole of a column buffer. -/
abbrev put1 {e : EltTy} (M : Memref sig .tc .vmem S32x1 e) (f : Bf (F := F) c M) (x : S32x1.Idx → Elt F e) : Bf (F := F) c M :=
  M.view.writes (Elt F) f [⟨Rect.unit ![0, 0] S32x1.size inb_S32x1_S32x1_0_0, x⟩]

/-- A stack stored over the whole of a stack buffer; -/
abbrev put3 {e : EltTy} (M : Memref sig .tc .vmem S31x32x1 e) (f : Bf (F := F) c M) (x : S31x32x1.Idx → Elt F e) :
    Bf (F := F) c M :=
  M.view.writes (Elt F) f [⟨Rect.unit ![0, 0, 0] S31x32x1.size inb_S31x32x1_S31x32x1_0_0_0, x⟩]

/-- one row of it stored at offset `o`; -/
abbrev putRow {e : EltTy} (M : Memref sig .tc .vmem S31x32x1 e) (f : Bf (F := F) c M) (o : Fin 3 → ℕ)
    (ho : ∀ a, o a + S1x32x1.size a ≤ S31x32x1.size a) (x : S1x32x1.Idx → Elt F e) : Bf (F := F) c M :=
  M.view.writes (Elt F) f [⟨Rect.unit (s := S31x32x1) o S1x32x1.size ho, x⟩]

/-- the whole of it, read. -/
abbrev read3 {e : EltTy} (M : Memref sig .tc .vmem S31x32x1 e) (f : Bf (F := F) c M) : S31x32x1.Idx → Elt F e :=
  View.readAt (Elt F) M.view (Rect.unit ![0, 0, 0] S31x32x1.size inb_S31x32x1_S31x32x1_0_0_0).toLoadRect f

/-- The whole of a block, read. -/
abbrev readBlock (M : Memref sig .tc .vmem S32x32768 .f32) (f : Bf (F := F) c M) : S32x32768.Idx → Elt F .f32 :=
  View.readAt (Elt F) M.view (Rect.unit ![0, 0] S32x32768.size inb_S32x32768_S32x32768_0_0).toLoadRect f

/-- What the first grid point stores: the first block's maximum, and the three stacks' initial contents. -/
theorem first_eq (a1 a2 a3 a4 a5 a6) :
    (run_first c i M1 h1 M2 h2 M3 h3 M4 h4 M5 h5 a1 a2 a3 a4 a5 a6 f1 f2 f3 f4 f5 f6 f7 f8 f9).1
      = (f5, put1 c A6 f6 (k0_pay12 (readBlock c M3 f3)), put3 c A7 f7 k0_pay1, put3 c A8 f8 k0_pay2,
          put3 c A9 f9 k0_pay3) := by
  sl_kernel_rfl

/-- What a middle grid point stores: its block's maximum, and the block before's maximum, best score and place in the stacks. -/
theorem mid_eq (a1 a2 a3 a4 a5 a6 a7 a8) :
    (run_mid c i M1 h1 M2 h2 M3 h3 M4 h4 M5 h5 a1 a2 a3 a4 a5 a6 a7 a8 f1 f2 f3 f4 f5 f6 f7 f8 f9).1
      = (f5, put1 c A6 f6 (k0_pay12 (readBlock c M3 f3)),
          putRow c A7 f7 (k0_off1 i) (k0_off1_inb i a2 a3) (cell (read1 c A6 f6)),
          putRow c A8 f8 (k0_off1 i) (k0_off1_inb i a2 a3) (cell (sampledMid c i M1 M2 M4 f1 f2 f4 f6).1),
          putRow c A9 f9 (k0_off1 i) (k0_off1_inb i a2 a3) (cell (sampledMid c i M1 M2 M4 f1 f2 f4 f6).2)) := by
  sl_kernel_rfl

/-- What the last point but one stores: the same, its block cut off at the end of the rows. -/
theorem edge_eq (a1 a2 a3 a4 a5 a6 a7 a8) :
    (run_edge c i M1 h1 M2 h2 M3 h3 M4 h4 M5 h5 a1 a2 a3 a4 a5 a6 a7 a8 f1 f2 f3 f4 f5 f6 f7 f8 f9).1
      = (f5, put1 c A6 f6 (k0_pay13 i (readBlock c M3 f3)),
          putRow c A7 f7 (k0_off1 i) (k0_off1_inb i a2 a3) (cell (read1 c A6 f6)),
          putRow c A8 f8 (k0_off1 i) (k0_off1_inb i a2 a3) (cell (sampledMid c i M1 M2 M4 f1 f2 f4 f6).1),
          putRow c A9 f9 (k0_off1 i) (k0_off1_inb i a2 a3) (cell (sampledMid c i M1 M2 M4 f1 f2 f4 f6).2)) := by
  sl_kernel_rfl

/-- What the last grid point stores: the last block's rows of the stacks, and the answer made of them. -/
theorem last_eq (a1 a2 a3 a4 a5 a6 a7) :
    (run_last c i M1 h1 M2 h2 M3 h3 M4 h4 M5 h5 a1 a2 a3 a4 a5 a6 a7 f1 f2 f3 f4 f5 f6 f7 f8 f9).1
      = (put1 c M5 f5 (k0_pay14 (read1 c M1 f1)
            (read3 c A7 (putRow c A7 f7 (k0_off2 i) (k0_off2_inb i a2 a4) (cell (read1 c A6 f6))))
            (read3 c A8 (putRow c A8 f8 (k0_off2 i) (k0_off2_inb i a2 a4)
              (cell (sampledLast c i M1 M2 M4 f1 f2 f4 f6).1)))
            (read3 c A9 (putRow c A9 f9 (k0_off2 i) (k0_off2_inb i a2 a4)
              (cell (sampledLast c i M1 M2 M4 f1 f2 f4 f6).2)))), f6,
          putRow c A7 f7 (k0_off2 i) (k0_off2_inb i a2 a4) (cell (read1 c A6 f6)),
          putRow c A8 f8 (k0_off2 i) (k0_off2_inb i a2 a4) (cell (sampledLast c i M1 M2 M4 f1 f2 f4 f6).1),
          putRow c A9 f9 (k0_off2 i) (k0_off2_inb i a2 a4) (cell (sampledLast c i M1 M2 M4 f1 f2 f4 f6).2)) := by
  sl_kernel_rfl

end Cert.KernelIdeal.Chunk
-- ==== Proof.Words.lean ====
module

public import proofs.«01_k».proof.Proof.PreFacts
public import proofs.«01_k».proof.Proof.Chunk
public import Idealize.ShloMosaic.Lib.Tactic

/-!
# The generator on words

`cipher k0 k1 x` is the generator's twenty rounds on one pair of words under the key `k0`, `k1`. The two host programs
and the kernel compute it at every place: `threefry_apply` and `hash_apply`.
-/

@[expose] public section

set_option maxRecDepth 65536

noncomputable section

namespace Cert.Words

open Idealize.ShloMosaic

local notation "𝕎" => BitVec 32

/-- One round: the words added, and the second one rotated to the left by `r` (`s` is 32 - `r`) and mixed with the sum. -/
def turn (r s : 𝕎) (x : 𝕎 × 𝕎) : 𝕎 × 𝕎 := (x.1 + x.2, (x.1 + x.2) ^^^ (x.2 <<< r.toNat ||| x.2 >>> s.toNat))

/-- The four rounds of the odd groups. -/
def odd (x : 𝕎 × 𝕎) : 𝕎 × 𝕎 := turn 6#32 26#32 (turn 26#32 6#32 (turn 15#32 17#32 (turn 13#32 19#32 x)))

/-- The four rounds of the even groups. -/
def even (x : 𝕎 × 𝕎) : 𝕎 × 𝕎 := turn 24#32 8#32 (turn 16#32 16#32 (turn 29#32 3#32 (turn 17#32 15#32 x)))

/-- Adding key words, and the group's number, to a pair. -/
def inject (a b n : 𝕎) (x : 𝕎 × 𝕎) : 𝕎 × 𝕎 := (x.1 + a, x.2 + b + n)

/-- The third key word. -/
def third (k0 k1 : 𝕎) : 𝕎 := k0 ^^^ k1 ^^^ 466688986#32

/-- The five groups of four rounds. -/
def cipher (k0 k1 : 𝕎) (x : 𝕎 × 𝕎) : 𝕎 × 𝕎 :=
  inject (third k0 k1) k0 5#32 (odd (inject k1 (third k0 k1) 4#32 (even (inject k0 k1 3#32 (odd
    (inject (third k0 k1) k0 2#32 (even (inject k1 (third k0 k1) 1#32 (odd (x.1 + k0, x.2 + k1))))))))))

open Cert.Pre_finite_with_clear_winners in
/-- The host programs' generator, at one place. -/
theorem threefry_apply (k0 k1 : IVec S_ 32) (hi lo : IVec S32x1000000 32) (j : S32x1000000.Idx) :
    ((fn_threefry2x32 (F := Ideal) k0 k1 hi lo).1 j, (fn_threefry2x32 (F := Ideal) k0 k1 hi lo).2 j)
      = cipher (broadcastInDim S32x1000000 ![] facts.bcast_S_S32x1000000 k0 j)
          (broadcastInDim S32x1000000 ![] facts.bcast_S_S32x1000000 k1 j) (hi j, lo j) := by
  sl_kernel_rfl

section kernel

open Cert.KernelIdeal Cert.KernelIdeal.Chunk

/-- A pair of chunks of words, at one place. -/
def pair (x : Words × Words) (i : S32x2048.Idx) : 𝕎 × 𝕎 := (x.1 i, x.2 i)

/-- A round of the kernel, at one place. -/
theorem mix_apply (r s : 𝕎) (hr : r.toNat < 32) (hs : s.toNat < 32) (x : Words × Words) (i : S32x2048.Idx) :
    pair (mix r s x) i = turn r s (pair x i) := by
  simp only [pair, mix, turn, addi, xori, ori, shli, shrui, all, broadcast, IntOp.addi, IntOp.xori, IntOp.ori, IntOp.shli,
    IntOp.shrui, hr, hs, if_true, BitVec.shiftLeft_eq', BitVec.ushiftRight_eq']
  rw [BitVec.xor_comm]

/-- The kernel's first round, whose first word is zero, at one place. -/
theorem opening_apply (x : Words) (i : S32x2048.Idx) : pair (opening x) i = turn 13#32 19#32 (0#32, x i) := by
  have h : (0#32 + x i) = x i := by simp
  simp only [turn, h]
  simp only [pair, opening, xori, ori, shli, shrui, all, broadcast, IntOp.xori, IntOp.ori, IntOp.shli, IntOp.shrui]
  rw [BitVec.xor_comm]
  rfl

/-- Four rounds with the one set of rotations, at one place, -/
theorem odd_apply (x : Words × Words) (i : S32x2048.Idx) : pair (roundsOdd x) i = odd (pair x i) := by
  unfold roundsOdd odd
  rw [mix_apply _ _ (by decide) (by decide), mix_apply _ _ (by decide) (by decide), mix_apply _ _ (by decide) (by decide),
    mix_apply _ _ (by decide) (by decide)]

/-- and four with the other. -/
theorem even_apply (x : Words × Words) (i : S32x2048.Idx) : pair (roundsEven x) i = even (pair x i) := by
  unfold roundsEven even
  rw [mix_apply _ _ (by decide) (by decide), mix_apply _ _ (by decide) (by decide), mix_apply _ _ (by decide) (by decide),
    mix_apply _ _ (by decide) (by decide)]

/-- Key words added to both words are a key injection when the second is a sum. -/
theorem key_apply (a b c n : 𝕎) (h : c + n = b) (x : Words × Words) (i : S32x2048.Idx) :
    pair (key a b x) i = inject a c n (pair x i) := by
  subst h
  simp only [pair, key, inject, addi, all, broadcast, IntOp.addi, BitVec.add_assoc]

/-- A key word added to the second word alone is a key injection whose first word is zero. -/
theorem keySnd_apply (b c n : 𝕎) (h : c + n = b) (x : Words × Words) (i : S32x2048.Idx) :
    pair (keySnd b x) i = inject 0#32 c n (pair x i) := by
  subst h
  simp only [pair, keySnd, inject, addi, all, broadcast, IntOp.addi, BitVec.add_assoc, BitVec.add_zero]

/-- The kernel's hash of a counter is the generator's under the key 0, 42: the kernel adds the 42 beforehand. -/
theorem hash_apply (x : Words) (i : S32x2048.Idx) (y : 𝕎) (hy : x i = y + 42#32) :
    pair (Chunk.hash x) i = cipher 0#32 42#32 (0#32, y) := by
  have h3 : third 0#32 42#32 = 466689008#32 := by decide
  unfold Chunk.hash cipher
  rw [h3]
  rw [key_apply _ _ 0#32 5#32 (by decide), odd_apply, key_apply _ _ 466689008#32 4#32 (by decide), even_apply,
    keySnd_apply _ 42#32 3#32 (by decide), odd_apply, key_apply _ _ 0#32 2#32 (by decide), even_apply,
    key_apply _ _ 466689008#32 1#32 (by decide)]
  rw [mix_apply _ _ (by decide) (by decide), mix_apply _ _ (by decide) (by decide), mix_apply _ _ (by decide) (by decide),
    opening_apply, hy]
  rfl

end kernel

end Cert.Words

end
-- ==== Proof.RefRead.lean ====
module

public import proofs.«01_k».proof.Proof.RefLine
public import proofs.«01_k».proof.Proof.Words
public import Idealize.ShloMosaic.Lib.StableHlo.RunRead
public import Idealize.ShloMosaic.Lib.Tactic

/-!
# The reference's result as a function of its arguments

`result x t` is the reference's result of logits `x` and temperatures `t`: the softmax of the scaled logits, the noise,
and the two arg-maxima. The noise and the arg-maximum are the functions of these names that the precondition's program
defines too.
-/

@[expose] public section

set_option maxRecDepth 65536

noncomputable section

namespace Cert.ReferenceIdeal.Line

open Cert.ReferenceIdeal Cert.ReferenceIdeal.Gen
open Idealize.ShloMosaic Idealize.ShloMosaic.TcCoe Idealize.SL.Sem

local notation "𝕏" => FVec Ideal S32x1000000 FTy.f32
local notation "𝕋" => FVec Ideal S32 FTy.f32

/-- A number for each row, at every place of the row. -/
def wide (v : 𝕋) : 𝕏 :=
  broadcastInDim S32x1000000 ![0, 1] Cert.Pre_finite_with_clear_winners.facts.bcast_S32x1_S32x1000000_0_1
    (broadcastInDim S32x1 ![0] Cert.Pre_finite_with_clear_winners.facts.bcast_S32_S32x1_0 v)

/-- One number for every row. -/
def rows (b : BitVec 32) : 𝕋 :=
  broadcastInDim S32 ![] Cert.Pre_finite_with_clear_winners.facts.bcast_S_S32 (constant S_ .f32 b)

/-- One number at every place. -/
def places (b : BitVec 32) : 𝕏 :=
  broadcastInDim S32x1000000 ![] Cert.Pre_finite_with_clear_winners.facts.bcast_S_S32x1000000 (constant S_ .f32 b)

/-- The rows whose temperature is zero. -/
def cold (t : 𝕋) : IVec S32 1 := cmpf .oeq t (rows 0x00000000#32)

/-- The temperatures, one in place of zero. -/
def safe (t : 𝕋) : 𝕋 := select (cold t) (rows 0x3F800000#32) t

/-- The logits over the temperatures. -/
def heated (x : 𝕏) (t : 𝕋) : 𝕏 := Host.divf x (wide (safe t))

/-- The rows' maxima. -/
def rowMax (y : 𝕏) : 𝕋 :=
  Host.reduce FloatOps.maximumf y (constant (F := Ideal) S_ .f32 0xFF800000#32)
    Cert.Pre_finite_with_clear_winners.facts.reducesTo_S32x1000000_S32_d1 Cert.Pre_finite_with_clear_winners.facts.h_S_

/-- The rows' exponentials, less the maxima. -/
def powers (y : 𝕏) : 𝕏 := Host.exp (subf y (wide (maximumf (rows 0xFF800000#32) (rowMax y))))

/-- The rows' sums. -/
def rowSum (y : 𝕏) : 𝕋 :=
  Host.reduceAdd y (constant (F := Ideal) S_ .f32 0x00000000#32)
    Cert.Pre_finite_with_clear_winners.facts.reducesTo_S32x1000000_S32_d1 Cert.Pre_finite_with_clear_winners.facts.h_S_

/-- The logarithms of the rows' softmax, plus a tiny number. -/
def logits (y : 𝕏) : 𝕏 := Host.log (addf (Host.divf (powers y) (wide (rowSum (powers y)))) (places 0x1E3CE508#32))

/-- The generator's key. -/
def seed : IVec S2 32 :=
  concatenate S2 0
    [⟨S1, broadcastInDim S1 ![] Cert.Pre_finite_with_clear_winners.facts.bcast_S_S1
        (id (Host.shrui (constantI S_ 32 42#32) (constantI S_ 32 32#32)))⟩,
     ⟨S1, broadcastInDim S1 ![] Cert.Pre_finite_with_clear_winners.facts.bcast_S_S1
        (id (andi (constantI S_ 32 42#32) (constantI S_ 32 4294967295#32)))⟩]
    Cert.Pre_finite_with_clear_winners.facts.concatenates_S1_S1_S2_d0

/-- The noise. -/
def noise : 𝕏 := Cert.Pre_finite_with_clear_winners.fn_gumbel (F := Ideal) seed

/-- The reference's result. -/
def result (x : 𝕏) (t : 𝕋) : IVec S32 32 :=
  select (cold t) (Cert.Pre_finite_with_clear_winners.fn_argmax (F := Ideal) x)
    (Cert.Pre_finite_with_clear_winners.fn_argmax (F := Ideal) (addf noise (logits (heated x t))))

/-- The places' numbers, row after row. -/
def place64 : IVec S32x1000000 64 :=
  addi (muli (broadcastInDim S32x1000000 ![] Cert.Pre_finite_with_clear_winners.facts.bcast_S_S32x1000000
      (constantI S_ 64 1000000#64)) (iotaInDim S32x1000000 64 0))
    (muli (broadcastInDim S32x1000000 ![] Cert.Pre_finite_with_clear_winners.facts.bcast_S_S32x1000000
      (constantI S_ 64 1#64)) (iotaInDim S32x1000000 64 1))

/-- The generator's counters: the low words of the places' numbers, -/
def lowCounter : IVec S32x1000000 32 := trunci 32 place64 natLt_32_64

/-- and the high ones. -/
def highCounter : IVec S32x1000000 32 :=
  trunci 32 (Host.shrui place64 (broadcastInDim S32x1000000 ![] Cert.Pre_finite_with_clear_winners.facts.bcast_S_S32x1000000
    (constantI S_ 64 32#64))) natLt_32_64

/-- An end of the range of the generator's numbers. -/
def ends (b : BitVec 32) : FVec Ideal S1x1 .f32 :=
  broadcastInDim S1x1 ![] Cert.Pre_finite_with_clear_winners.facts.bcast_S_S1x1 (constant (F := Ideal) S_ .f32 b)

/-- The operations from number `a` up to number `b`. -/
abbrev part (a b : ℕ) : List (HloOp τ sig (Elt Ideal)) := (line.1.take b).drop a

/-- A key word at a place of the generator's array. -/
abbrev keyAt (k : IVec S_ 32) (j : S32x1000000.Idx) : BitVec 32 :=
  broadcastInDim S32x1000000 ![] Cert.Pre_finite_with_clear_winners.facts.bcast_S_S32x1000000 k j

variable (V : Valuation τ sig (Elt Ideal))

set_option maxHeartbeats 0 in
/-- What the operations before the generator's make of the arguments. -/
theorem head_read :
    StableHlo.after (part 0 42) V (Proc.devRef .tc main_v28)
        = logits (heated (V (Proc.devRef .tc main_arg0)) (V (Proc.devRef .tc main_arg1))) := by
  dsimp only [part, line, List.take, List.drop]; after_reads_simp
  rfl

set_option maxHeartbeats 0 in
/-- the arg-maximum of the logits, -/
theorem head_read_greedy :
    StableHlo.after (part 0 42) V (Proc.devRef .tc main_v18)
        = Cert.Pre_finite_with_clear_winners.fn_argmax (F := Ideal) (V (Proc.devRef .tc main_arg0)) := by
  dsimp only [part, line, List.take, List.drop]; after_reads_simp
  rfl

set_option maxHeartbeats 0 in
/-- and the generator's key. -/
theorem head_read_seed : StableHlo.after (part 0 42) V (Proc.devRef .tc main_v25) = seed := by
  dsimp only [part, line, List.take, List.drop]; after_reads_simp
  rfl

/-- The generator's two key words and its counters, cut from the seed and the place. -/
theorem counters_read :
    StableHlo.after (part 42 65) V (Proc.devRef .tc main_call2_call0_v4)
        = shapeCast S_ (extractStridedSlice S1 ![0] (V (Proc.devRef .tc main_v25) : IVec S2 32)
            Cert.Pre_finite_with_clear_winners.facts.slices_S2_S1_0) Cert.Pre_finite_with_clear_winners.facts.shapeCasts_S1_S_
      ∧ StableHlo.after (part 42 65) V (Proc.devRef .tc main_call2_call0_v6)
        = shapeCast S_ (extractStridedSlice S1 ![1] (V (Proc.devRef .tc main_v25) : IVec S2 32)
            Cert.Pre_finite_with_clear_winners.facts.slices_S2_S1_1) Cert.Pre_finite_with_clear_winners.facts.shapeCasts_S1_S_
      ∧ StableHlo.after (part 42 65) V (Proc.devRef .tc main_call2_call0_v16) = lowCounter
      ∧ StableHlo.after (part 42 65) V (Proc.devRef .tc main_call2_call0_v17) = highCounter
      ∧ StableHlo.after (part 42 65) V (Proc.devRef .tc main_call2_call0_v1) = ends 0x00800000#32
      ∧ StableHlo.after (part 42 65) V (Proc.devRef .tc main_call2_call0_v2) = ends 0x3F800000#32 := by
  dsimp only [part, line, List.take, List.drop]; after_reads_simp
  exact ⟨rfl, rfl, rfl, rfl, rfl, rfl⟩

/-- The first group of rounds. -/
theorem group1 (j : S32x1000000.Idx) :
    ((StableHlo.after (part 65 115) V (Proc.devRef .tc main_call2_call0_call0_v35) : IVec S32x1000000 32) j,
      (StableHlo.after (part 65 115) V (Proc.devRef .tc main_call2_call0_call0_v39) : IVec S32x1000000 32) j)
      = Words.inject (keyAt (V (Proc.devRef .tc main_call2_call0_v6)) j) (Words.third (keyAt (V (Proc.devRef .tc main_call2_call0_v4)) j) (keyAt (V (Proc.devRef .tc main_call2_call0_v6)) j)) 1#32
          (Words.odd (IntOp.addi ((V (Proc.devRef .tc main_call2_call0_v17) : IVec S32x1000000 32) j) (keyAt (V (Proc.devRef .tc main_call2_call0_v4)) j),
            IntOp.addi ((V (Proc.devRef .tc main_call2_call0_v16) : IVec S32x1000000 32) j) (keyAt (V (Proc.devRef .tc main_call2_call0_v6)) j))) := by
  sl_kernel_rfl

/-- The third key word, at a place. -/
theorem third_read (j : S32x1000000.Idx) :
    keyAt (StableHlo.after (part 65 115) V (Proc.devRef .tc main_call2_call0_call0_v1)) j = Words.third (keyAt (V (Proc.devRef .tc main_call2_call0_v4)) j) (keyAt (V (Proc.devRef .tc main_call2_call0_v6)) j) := by
  sl_kernel_rfl

/-- The second group of rounds. -/
theorem group2 (j : S32x1000000.Idx) :
    ((StableHlo.after (part 115 158) V (Proc.devRef .tc main_call2_call0_call0_v69) : IVec S32x1000000 32) j,
      (StableHlo.after (part 115 158) V (Proc.devRef .tc main_call2_call0_call0_v73) : IVec S32x1000000 32) j)
      = Words.inject (keyAt (V (Proc.devRef .tc main_call2_call0_call0_v1)) j) (keyAt (V (Proc.devRef .tc main_call2_call0_v4)) j) 2#32
          (Words.even ((V (Proc.devRef .tc main_call2_call0_call0_v35) : IVec S32x1000000 32) j,
            (V (Proc.devRef .tc main_call2_call0_call0_v39) : IVec S32x1000000 32) j)) := by
  sl_kernel_rfl

/-- The third group of rounds. -/
theorem group3 (j : S32x1000000.Idx) :
    ((StableHlo.after (part 158 201) V (Proc.devRef .tc main_call2_call0_call0_v103) : IVec S32x1000000 32) j,
      (StableHlo.after (part 158 201) V (Proc.devRef .tc main_call2_call0_call0_v107) : IVec S32x1000000 32) j)
      = Words.inject (keyAt (V (Proc.devRef .tc main_call2_call0_v4)) j) (keyAt (V (Proc.devRef .tc main_call2_call0_v6)) j) 3#32
          (Words.odd ((V (Proc.devRef .tc main_call2_call0_call0_v69) : IVec S32x1000000 32) j,
            (V (Proc.devRef .tc main_call2_call0_call0_v73) : IVec S32x1000000 32) j)) := by
  sl_kernel_rfl

/-- The fourth group of rounds. -/
theorem group4 (j : S32x1000000.Idx) :
    ((StableHlo.after (part 201 244) V (Proc.devRef .tc main_call2_call0_call0_v137) : IVec S32x1000000 32) j,
      (StableHlo.after (part 201 244) V (Proc.devRef .tc main_call2_call0_call0_v141) : IVec S32x1000000 32) j)
      = Words.inject (keyAt (V (Proc.devRef .tc main_call2_call0_v6)) j) (keyAt (V (Proc.devRef .tc main_call2_call0_call0_v1)) j) 4#32
          (Words.even ((V (Proc.devRef .tc main_call2_call0_call0_v103) : IVec S32x1000000 32) j,
            (V (Proc.devRef .tc main_call2_call0_call0_v107) : IVec S32x1000000 32) j)) := by
  sl_kernel_rfl

/-- The fifth group of rounds. -/
theorem group5 (j : S32x1000000.Idx) :
    ((StableHlo.after (part 244 287) V (Proc.devRef .tc main_call2_call0_v18_0) : IVec S32x1000000 32) j,
      (StableHlo.after (part 244 287) V (Proc.devRef .tc main_call2_call0_v18_1) : IVec S32x1000000 32) j)
      = Words.inject (keyAt (V (Proc.devRef .tc main_call2_call0_call0_v1)) j) (keyAt (V (Proc.devRef .tc main_call2_call0_v4)) j) 5#32
          (Words.odd ((V (Proc.devRef .tc main_call2_call0_call0_v137) : IVec S32x1000000 32) j,
            (V (Proc.devRef .tc main_call2_call0_call0_v141) : IVec S32x1000000 32) j)) := by
  sl_kernel_rfl

/-- Two contents agree in the generator's keys and in the range of its numbers. -/
def SameKeys (W : Valuation τ sig (Elt Ideal)) : Prop :=
  W (Proc.devRef .tc main_call2_call0_v4) = V (Proc.devRef .tc main_call2_call0_v4)
    ∧ W (Proc.devRef .tc main_call2_call0_v6) = V (Proc.devRef .tc main_call2_call0_v6)
    ∧ W (Proc.devRef .tc main_call2_call0_v1) = V (Proc.devRef .tc main_call2_call0_v1)
    ∧ W (Proc.devRef .tc main_call2_call0_v2) = V (Proc.devRef .tc main_call2_call0_v2)

variable {V} in
/-- Agreement passes on. -/
theorem SameKeys.trans {W U : Valuation τ sig (Elt Ideal)} (h : SameKeys V W) (h' : SameKeys W U) : SameKeys V U :=
  ⟨h'.1.trans h.1, h'.2.1.trans h.2.1, h'.2.2.1.trans h.2.2.1, h'.2.2.2.trans h.2.2.2⟩

/-- The generator's five groups of rounds: from which operation up to which each one goes. -/
abbrev groups : List (ℕ × ℕ) := [(65, 115), (115, 158), (158, 201), (201, 244), (244, 287)]

/-- No group changes the keys or the range, -/
theorem group_keys (a b : ℕ) (h : (a, b) ∈ groups) : SameKeys V (StableHlo.after (part a b) V) := by
  simp only [groups, List.mem_cons, List.not_mem_nil, or_false, Prod.mk.injEq] at h
  rcases h with ⟨rfl, rfl⟩ | ⟨rfl, rfl⟩ | ⟨rfl, rfl⟩ | ⟨rfl, rfl⟩ | ⟨rfl, rfl⟩ <;>
    (dsimp only [SameKeys, part, line, List.take, List.drop]; after_reads_simp; exact ⟨trivial, trivial, trivial, trivial⟩)

/-- and none after the first changes the third key word. -/
theorem group_third (a b : ℕ) (h : (a, b) ∈ groups.tail) :
    StableHlo.after (part a b) V (Proc.devRef .tc main_call2_call0_call0_v1) = V (Proc.devRef .tc main_call2_call0_call0_v1) := by
  simp only [groups, List.tail_cons, List.mem_cons, List.not_mem_nil, or_false, Prod.mk.injEq] at h
  rcases h with ⟨rfl, rfl⟩ | ⟨rfl, rfl⟩ | ⟨rfl, rfl⟩ | ⟨rfl, rfl⟩ <;>
    (dsimp only [part, line, List.take, List.drop]; after_reads_simp)

/-- The noise made of the generator's words. -/
theorem noise_read :
    StableHlo.after (part 287 309) V (Proc.devRef .tc main_v29)
      = Host.negf (Host.log (Host.negf (Host.log (Cert.Pre_finite_with_clear_winners.fn_uniform_part1 (F := Ideal)
          (V (Proc.devRef .tc main_call2_call0_v1)) (V (Proc.devRef .tc main_call2_call0_v2))
          (xori (V (Proc.devRef .tc main_call2_call0_v18_0)) (V (Proc.devRef .tc main_call2_call0_v18_1))))))) := by
  dsimp only [part, line, List.take, List.drop]; after_reads_simp
  rfl

/-- The operations of the noise leave the rest alone. -/
theorem rest_kept :
    StableHlo.after (part 42 309) V (Proc.devRef .tc main_arg1) = V (Proc.devRef .tc main_arg1)
      ∧ StableHlo.after (part 42 309) V (Proc.devRef .tc main_v18) = V (Proc.devRef .tc main_v18)
      ∧ StableHlo.after (part 42 309) V (Proc.devRef .tc main_v28) = V (Proc.devRef .tc main_v28) := by
  dsimp only [part, line, List.take, List.drop]; after_reads_simp
  exact ⟨trivial, trivial, trivial⟩

/-- The first operations leave the temperatures alone. -/
theorem head_kept : StableHlo.after (part 0 42) V (Proc.devRef .tc main_arg1) = V (Proc.devRef .tc main_arg1) := by
  dsimp only [part, line, List.take, List.drop]; after_reads_simp

/-- The arg-maximum of the noise and the logarithms, -/
theorem argmax_read :
    StableHlo.after (part 310 315) V (Proc.devRef .tc main_v31)
      = Cert.Pre_finite_with_clear_winners.fn_argmax (F := Ideal) (V (Proc.devRef .tc main_v30)) := by
  dsimp only [part, line, List.take, List.drop]; after_reads_simp
  rfl

/-- their sum, -/
theorem sum_read :
    StableHlo.after (part 309 310) V (Proc.devRef .tc main_v30)
      = (addf (V (Proc.devRef .tc main_v29) : 𝕏) (V (Proc.devRef .tc main_v28) : 𝕏) : 𝕏) := by
  dsimp only [part, line, List.take, List.drop]; after_reads_simp

/-- and the choice between the two arg-maxima. -/
theorem choice_read :
    StableHlo.after (part 315 319) V (Proc.devRef .tc main_v34)
      = select (cold (V (Proc.devRef .tc main_arg1))) (V (Proc.devRef .tc main_v18)) (V (Proc.devRef .tc main_v31)) := by
  dsimp only [part, line, List.take, List.drop]; after_reads_simp
  rfl

/-- The arg-maximum leaves the rest alone. -/
theorem last_kept :
    StableHlo.after (part 309 315) V (Proc.devRef .tc main_arg1) = V (Proc.devRef .tc main_arg1)
      ∧ StableHlo.after (part 309 315) V (Proc.devRef .tc main_v18) = V (Proc.devRef .tc main_v18) := by
  dsimp only [part, line, List.take, List.drop]; after_reads_simp
  exact ⟨trivial, trivial⟩

/-- The operations one part after another. -/
theorem after_part (a b c : ℕ) (h : a ≤ b) (h' : b ≤ c) :
    StableHlo.after (part a c) V = StableHlo.after (part b c) (StableHlo.after (part a b) V) := by
  have happ : ∀ (l₁ l₂ : List (HloOp τ sig (Elt Ideal))) (W : Valuation τ sig (Elt Ideal)),
      StableHlo.after (l₁ ++ l₂) W = StableHlo.after l₂ (StableHlo.after l₁ W) := by
    intro l₁
    induction l₁ with
    | nil => intro _ _; rfl
    | cons op l ih => intro l₂ W; exact ih _ _
  rw [← happ]
  congr 1
  show (line.1.take c).drop a = (line.1.take b).drop a ++ (line.1.take c).drop b
  have e : line.1.take b = (line.1.take c).take b := by rw [List.take_take, min_eq_left h']
  rw [e]
  generalize line.1.take c = l
  conv_lhs => rw [← List.take_append_drop b l, List.drop_append]
  congr 1
  rcases Nat.le_total b l.length with hb | hb
  · rw [List.length_take, min_eq_left hb, Nat.sub_eq_zero_of_le h, List.drop_zero]
  · rw [List.drop_of_length_le hb, List.drop_nil]

/-- Addition of words. -/
theorem addi_word (a b : BitVec 32) : IntOp.addi a b = a + b := rfl

/-- The generator's words. -/
theorem words_read (j : S32x1000000.Idx) :
    ((StableHlo.after (part 65 287) V (Proc.devRef .tc main_call2_call0_v18_0) : IVec S32x1000000 32) j,
      (StableHlo.after (part 65 287) V (Proc.devRef .tc main_call2_call0_v18_1) : IVec S32x1000000 32) j)
      = Words.cipher (keyAt (V (Proc.devRef .tc main_call2_call0_v4)) j) (keyAt (V (Proc.devRef .tc main_call2_call0_v6)) j) ((V (Proc.devRef .tc main_call2_call0_v17) : IVec S32x1000000 32) j,
          (V (Proc.devRef .tc main_call2_call0_v16) : IVec S32x1000000 32) j) := by
  rw [after_part V 65 115 287 (by decide) (by decide), after_part _ 115 158 287 (by decide) (by decide),
    after_part _ 158 201 287 (by decide) (by decide), after_part _ 201 244 287 (by decide) (by decide)]
  rw [group5, group4, group3, group2, group1]
  have k1 := fun W => group_keys W 65 115 (by decide)
  have k2 := fun W => group_keys W 115 158 (by decide)
  have k3 := fun W => group_keys W 158 201 (by decide)
  have k4 := fun W => group_keys W 201 244 (by decide)
  have t2 := fun W => group_third W 115 158 (by decide)
  have t3 := fun W => group_third W 158 201 (by decide)
  have t4 := fun W => group_third W 201 244 (by decide)
  simp only [(k4 _).1, (k4 _).2.1, (k3 _).1, (k3 _).2.1, (k2 _).1, (k2 _).2.1, (k1 _).1, (k1 _).2.1, t4, t3, t2, third_read, addi_word]
  rfl

/-- The generator's keys and range, after its rounds. -/
theorem keys : SameKeys V (StableHlo.after (part 65 287) V) := by
  rw [after_part V 65 115 287 (by decide) (by decide), after_part _ 115 158 287 (by decide) (by decide),
    after_part _ 158 201 287 (by decide) (by decide), after_part _ 201 244 287 (by decide) (by decide)]
  exact ((((group_keys V 65 115 (by decide)).trans (group_keys _ 115 158 (by decide))).trans
    (group_keys _ 158 201 (by decide))).trans (group_keys _ 201 244 (by decide))).trans (group_keys _ 244 287 (by decide))

/-- The noise, from the seed on. -/
theorem noise_part (hV : V (Proc.devRef .tc main_v25) = seed) :
    StableHlo.after (part 42 309) V (Proc.devRef .tc main_v29) = noise := by
  rw [after_part V 42 65 309 (by decide) (by decide), after_part _ 65 287 309 (by decide) (by decide), noise_read]
  obtain ⟨h4, h6, h16, h17, h1, h2⟩ := counters_read V
  rw [(keys _).2.2.1, (keys _).2.2.2, h1, h2]
  have hw : ∀ j, _ := fun j => words_read (StableHlo.after (part 42 65) V) j
  simp only [h4, h6, h16, h17, hV] at hw
  have hx : xori (StableHlo.after (part 65 287) (StableHlo.after (part 42 65) V) (Proc.devRef .tc main_call2_call0_v18_0)
        : IVec S32x1000000 32)
      (StableHlo.after (part 65 287) (StableHlo.after (part 42 65) V) (Proc.devRef .tc main_call2_call0_v18_1)
        : IVec S32x1000000 32)
      = xori (Cert.Pre_finite_with_clear_winners.fn_threefry2x32 (F := Ideal)
            (shapeCast S_ (extractStridedSlice S1 ![0] seed
              Cert.Pre_finite_with_clear_winners.facts.slices_S2_S1_0) Cert.Pre_finite_with_clear_winners.facts.shapeCasts_S1_S_)
            (shapeCast S_ (extractStridedSlice S1 ![1] seed
              Cert.Pre_finite_with_clear_winners.facts.slices_S2_S1_1) Cert.Pre_finite_with_clear_winners.facts.shapeCasts_S1_S_)
            highCounter lowCounter).1
          (Cert.Pre_finite_with_clear_winners.fn_threefry2x32 (F := Ideal)
            (shapeCast S_ (extractStridedSlice S1 ![0] seed
              Cert.Pre_finite_with_clear_winners.facts.slices_S2_S1_0) Cert.Pre_finite_with_clear_winners.facts.shapeCasts_S1_S_)
            (shapeCast S_ (extractStridedSlice S1 ![1] seed
              Cert.Pre_finite_with_clear_winners.facts.slices_S2_S1_1) Cert.Pre_finite_with_clear_winners.facts.shapeCasts_S1_S_)
            highCounter lowCounter).2 := by
    funext j
    have h := (hw j).trans (Words.threefry_apply _ _ _ _ j).symm
    exact congrArg (fun p : BitVec 32 × BitVec 32 => IntOp.xori p.1 p.2) h
  rw [hx]
  rfl

/-- The reference's run leaves its result in its last buffer. -/
theorem result_read :
    StableHlo.after line.1 V (Proc.devRef .tc main_v34)
      = result (V (Proc.devRef .tc main_arg0)) (V (Proc.devRef .tc main_arg1)) := by
  have h0 : line.1 = part 0 319 := by
    show line.1 = (line.1.take 319).drop 0
    rw [List.drop_zero, List.take_of_length_le]
    show line.1.length ≤ 319
    decide +kernel
  rw [h0, after_part V 0 42 319 (by decide) (by decide), after_part _ 42 309 319 (by decide) (by decide),
    after_part _ 309 315 319 (by decide) (by decide), choice_read]
  rw [(last_kept _).1, (last_kept _).2, (rest_kept _).1, (rest_kept _).2.1, head_kept, head_read_greedy]
  rw [after_part _ 309 310 315 (by decide) (by decide), argmax_read, sum_read, (rest_kept _).2.2, head_read,
    noise_part _ (head_read_seed V)]
  rfl

end Cert.ReferenceIdeal.Line

end
-- ==== Proof.Margin.lean ====
module

public import Mathlib.Analysis.SpecialFunctions.Log.Basic
public import Mathlib.Analysis.SpecialFunctions.Exp

/-!
# Why a margin between scores is enough

Two samplers perturb the same scores: one with noise made of a fraction `f` bounded below by the least normal number,
one with noise made of `f` rescaled into that range; the second also adds a tiny number to the probabilities before it
takes logarithms. `noise_le` and `noise_le_add` say that the two noises of one fraction differ by less than 1/2200, and
`winner_of_scores` and `winner_of_probs` say that an entry that beats every other by 9/10000 wins under both samplers.
-/

@[expose] public section

noncomputable section

namespace Cert.Margin

open Real

/-- The least normal number. -/
def tiny : ℝ := 1 / 2 ^ 126

/-- The fraction made of a word below 2^23. -/
def frac (n : ℕ) : ℝ := n / 2 ^ 23

/-- The fraction bounded below. -/
def clipped (n : ℕ) : ℝ := max (frac n) tiny

/-- The fraction rescaled, then bounded below. -/
def scaled (n : ℕ) : ℝ := max tiny (frac n * (1 - tiny) + tiny)

/-- The noise made of a number between zero and one. -/
def noise (u : ℝ) : ℝ := -log (-log u)

/-- The least number is positive. -/
theorem tiny_pos : 0 < tiny := by unfold tiny; positivity

/-- A fraction is not negative, -/
theorem frac_nonneg (n : ℕ) : 0 ≤ frac n := by unfold frac; positivity

/-- and stays below one. -/
theorem frac_le {n : ℕ} (h : n < 2 ^ 23) : frac n ≤ 1 - 1 / 2 ^ 23 := by
  have : (n : ℝ) ≤ 2 ^ 23 - 1 := by
    have : (n : ℝ) + 1 ≤ 2 ^ 23 := by exact_mod_cast h
    linarith
  unfold frac
  rw [div_le_iff₀ (by positivity)]
  norm_num at this ⊢
  linarith

/-- A clipped fraction is positive, -/
theorem clipped_pos (n : ℕ) : 0 < clipped n := lt_max_of_lt_right tiny_pos

/-- and so is a rescaled one. -/
theorem scaled_pos (n : ℕ) : 0 < scaled n := lt_max_of_lt_left tiny_pos

/-- The clipped fraction is at most the rescaled one. -/
theorem clipped_le_scaled {n : ℕ} (h : n < 2 ^ 23) : clipped n ≤ scaled n := by
  have h1 := frac_le h
  have h2 := tiny_pos
  refine max_le (le_max_of_le_right ?_) (le_max_left _ _)
  nlinarith

/-- A rescaled fraction stays below one. -/
theorem scaled_le {n : ℕ} (h : n < 2 ^ 23) : scaled n ≤ 1 - 1 / 2 ^ 24 := by
  have h1 := frac_le h
  have h0 := frac_nonneg n
  have h2 : tiny ≤ 1 / 2 ^ 24 := by unfold tiny; norm_num
  have h3 := tiny_pos
  refine max_le (by norm_num at h2 ⊢; linarith) ?_
  have : frac n * (1 - tiny) ≤ frac n := by nlinarith
  norm_num at h1 h2 ⊢
  linarith

/-- The rescaled fraction exceeds the clipped one by a relative 2^-100 at most. -/
theorem scaled_le_mul (n : ℕ) : scaled n ≤ clipped n * (1 + 1 / 2 ^ 100) := by
  have h2 := tiny_pos
  rcases Nat.eq_zero_or_pos n with rfl | hn
  · have : scaled 0 = tiny := by simp [scaled, frac]
    rw [this]
    have : tiny ≤ clipped 0 := le_max_right _ _
    nlinarith
  · have hf : 1 / 2 ^ 23 ≤ frac n := by
      unfold frac
      have : (1 : ℝ) ≤ n := by exact_mod_cast hn
      gcongr
    have h3 : frac n ≤ clipped n := le_max_left _ _
    have h4 : tiny ≤ frac n * (1 / 2 ^ 100) := by
      have : tiny ≤ 1 / 2 ^ 23 * (1 / 2 ^ 100) := by unfold tiny; norm_num
      refine this.trans ?_
      gcongr
    have h5 := frac_nonneg n
    refine max_le ?_ ?_
    · nlinarith
    · nlinarith

/-- The logarithm of a rescaled fraction stays away from zero, -/
theorem neg_log_scaled_ge {n : ℕ} (h : n < 2 ^ 23) : 1 / 2 ^ 24 ≤ -log (scaled n) := by
  have := log_le_sub_one_of_pos (scaled_pos n)
  have := scaled_le h
  linarith

/-- so its negation is positive, -/
theorem neg_log_scaled_pos {n : ℕ} (h : n < 2 ^ 23) : 0 < -log (scaled n) :=
  lt_of_lt_of_le (by norm_num) (neg_log_scaled_ge h)

/-- and it is bounded. -/
theorem neg_log_scaled_le (n : ℕ) : -log (scaled n) ≤ 126 := by
  have h1 : log tiny ≤ log (scaled n) := log_le_log tiny_pos (le_max_left _ _)
  have h2 : log tiny = -(126 * log 2) := by
    unfold tiny
    rw [one_div, log_inv, log_pow]; norm_num
  have h3 : log 2 ≤ 1 := by have := log_le_sub_one_of_pos (show (0 : ℝ) < 2 by norm_num); linarith
  linarith

/-- The negated logarithm of a clipped fraction is positive. -/
theorem neg_log_clipped_pos {n : ℕ} (h : n < 2 ^ 23) : 0 < -log (clipped n) := by
  have := log_le_log (clipped_pos n) (clipped_le_scaled h)
  have := neg_log_scaled_pos h
  linarith

/-- The clipped fraction's noise is the lesser one. -/
theorem noise_le {n : ℕ} (h : n < 2 ^ 23) : noise (clipped n) ≤ noise (scaled n) := by
  have h1 := log_le_log (clipped_pos n) (clipped_le_scaled h)
  have h2 := neg_log_scaled_pos h
  unfold noise
  exact neg_le_neg (log_le_log h2 (by linarith))

/-- The two noises are close. -/
theorem noise_le_add {n : ℕ} (h : n < 2 ^ 23) : noise (scaled n) ≤ noise (clipped n) + 1 / 2200 := by
  have h1 : log (scaled n) ≤ log (clipped n) + 1 / 2 ^ 100 := by
    refine (log_le_log (scaled_pos n) (scaled_le_mul n)).trans ?_
    rw [log_mul (clipped_pos n).ne' (by positivity)]
    have := log_le_sub_one_of_pos (show (0 : ℝ) < 1 + 1 / 2 ^ 100 by positivity)
    linarith
  have h2 := neg_log_scaled_ge h
  have h3 := neg_log_scaled_pos h
  have h4 : -log (clipped n) ≤ -log (scaled n) * exp (1 / 2200) := by
    have h5 : (1 : ℝ) + 1 / 2200 ≤ exp (1 / 2200) := by
      have := add_one_le_exp (1 / 2200 : ℝ); linarith
    have h6 : -log (clipped n) ≤ -log (scaled n) * (1 + 1 / 2200) := by
      norm_num at h1 h2 ⊢
      linarith
    exact h6.trans (mul_le_mul_of_nonneg_left h5 h3.le)
  have h7 := log_le_log (neg_log_clipped_pos h) h4
  rw [log_mul h3.ne' (exp_pos _).ne', log_exp] at h7
  unfold noise
  linarith

/-- The exponential of a noise. -/
theorem exp_noise {u : ℝ} (h : 0 < -log u) : exp (noise u) = (-log u)⁻¹ := by
  unfold noise; rw [exp_neg, exp_log h]

section
variable {ι : Type*} (s : ι → ℝ) (w : ι → ℕ) (hw : ∀ j, w j < 2 ^ 23) (k : ι)
  (hk : ∀ j, j ≠ k → s j + noise (scaled (w j)) + 9 / 10000 ≤ s k + noise (scaled (w k)))

include hw hk

/-- An entry that wins by a margin under the rescaled noise wins under the clipped one. -/
theorem winner_of_scores (j : ι) (hj : j ≠ k) : s j + noise (clipped (w j)) < s k + noise (clipped (w k)) := by
  have := noise_le (hw j)
  have := noise_le_add (hw k)
  have := hk j hj
  norm_num at *
  linarith

/-- It wins too when the scores are the logarithms of their own softmax, less the shift `m`, plus a tiny number `ε`. -/
theorem winner_of_probs [Fintype ι] (hι : (Fintype.card ι : ℝ) ≤ 1000000) (m ε : ℝ) (h0 : 0 ≤ ε) (hε : ε ≤ 2 / 10 ^ 20)
    (j : ι) (hj : j ≠ k) :
    log (exp (s j - m) / (∑ i, exp (s i - m)) + ε) + noise (scaled (w j))
      < log (exp (s k - m) / (∑ i, exp (s i - m)) + ε) + noise (scaled (w k)) := by
  set Z := ∑ i, exp (s i - m) with hZ
  have hZ0 : 0 < Z := Finset.sum_pos (fun i _ => exp_pos _) ⟨k, Finset.mem_univ k⟩
  set p : ι → ℝ := fun i => exp (s i - m) / Z with hp
  have hp0 : ∀ i, 0 < p i := fun i => div_pos (exp_pos _) hZ0
  set E : ι → ℝ := fun i => exp (noise (scaled (w i))) with hE
  have hE0 : ∀ i, 0 < E i := fun i => exp_pos _
  have hEle : ∀ i, E i ≤ 2 ^ 24 := fun i => by
    have h1 := neg_log_scaled_ge (hw i)
    show exp (noise (scaled (w i))) ≤ _
    rw [exp_noise (neg_log_scaled_pos (hw i))]
    rw [inv_le_comm₀ (neg_log_scaled_pos (hw i)) (by positivity)]
    norm_num at h1 ⊢
    exact h1
  have hEge : ∀ i, 1 ≤ 126 * E i := fun i => by
    have h1 := neg_log_scaled_le (w i)
    have h2 := neg_log_scaled_pos (hw i)
    show 1 ≤ 126 * exp (noise (scaled (w i)))
    rw [exp_noise h2, ← div_eq_mul_inv, one_le_div h2]
    exact h1
  have hprod : ∀ i, p i * E i = exp (s i + noise (scaled (w i))) * (exp (-m) / Z) := fun i => by
    simp only [hp, hE]
    rw [sub_eq_add_neg, exp_add, exp_add]; ring
  have hmZ : 0 < exp (-m) / Z := div_pos (exp_pos _) hZ0
  have hgap : ∀ i, i ≠ k → p i * E i * (1 + 9 / 10000) ≤ p k * E k := fun i hi => by
    have h1 : exp (s i + noise (scaled (w i)) + 9 / 10000) ≤ exp (s k + noise (scaled (w k))) := exp_le_exp.2 (hk i hi)
    rw [exp_add] at h1
    have h2 : (1 : ℝ) + 9 / 10000 ≤ exp (9 / 10000) := by have := add_one_le_exp (9 / 10000 : ℝ); linarith
    rw [hprod, hprod, mul_right_comm]
    refine mul_le_mul_of_nonneg_right (le_trans ?_ h1) hmZ.le
    exact mul_le_mul_of_nonneg_left h2 (exp_pos _).le
  have hall : ∀ i, p i ≤ 126 * (p k * E k) := fun i => by
    have h1 : p i * E i ≤ p k * E k := by
      rcases eq_or_ne i k with rfl | hi
      · exact le_rfl
      · have := hgap i hi
        have := mul_pos (hp0 i) (hE0 i)
        linarith
    have h2 : p i * 1 ≤ p i * (126 * E i) := mul_le_mul_of_nonneg_left (hEge i) (hp0 i).le
    linarith
  have hsum : ∑ i, p i = 1 := by
    simp only [hp]
    simp only [div_eq_mul_inv]; rw [← Finset.sum_mul, ← hZ, mul_inv_cancel₀ hZ0.ne']
  have hW : 1 ≤ 126000000 * (p k * E k) := by
    have h1 : ∑ i, p i ≤ ∑ _i : ι, 126 * (p k * E k) := Finset.sum_le_sum fun i _ => hall i
    rw [hsum, Finset.sum_const, Finset.card_univ, nsmul_eq_mul] at h1
    have h2 := mul_pos (hp0 k) (hE0 k)
    have h3 : (Fintype.card ι : ℝ) * (126 * (p k * E k)) ≤ 1000000 * (126 * (p k * E k)) :=
      mul_le_mul_of_nonneg_right hι (by positivity)
    linarith
  have hfin : (p j + ε) * E j < (p k + ε) * E k := by
    have h1 := hgap j hj
    have h2 : ε * E j ≤ 2 / 10 ^ 20 * 2 ^ 24 := mul_le_mul hε (hEle j) (hE0 j).le (by positivity)
    have h3 : 0 ≤ ε * E k := mul_nonneg h0 (hE0 k).le
    norm_num at h1 h2 hW ⊢
    nlinarith
  have h1 := log_lt_log (by have := hp0 j; have := hE0 j; positivity) hfin
  rw [log_mul (by have := hp0 j; positivity) (hE0 j).ne', log_mul (by have := hp0 k; positivity) (hE0 k).ne'] at h1
  simpa only [hE, hp, log_exp] using h1

end

end Cert.Margin
-- ==== Proof.First.lean ====
module

public import proofs.«01_k».proof.Proof.Margin
public import Idealize.ShloMosaic.PureOps.Ideal.Laws

/-!
# First greatest entries

A running best value with the first place it stands at, as the kernel keeps it chunk after chunk: what it means (`Best`),
how two neighbouring stretches merge, and that a maximum with a least matching place is one.
-/

@[expose] public section

namespace Cert.First

open Idealize.ShloMosaic

/-- The greatest word. -/
abbrev never : BitVec 32 := 2147483647#32

/-- What a fold of a choosing operation gives: something related to every entry, and one of them or the initial value. -/
theorem fold_spec {α β : Type} (op : α → α → α) [Std.Commutative op] [Std.Associative op] (R : α → α → Prop)
    (hrefl : ∀ a, R a a) (htrans : ∀ a b c, R a b → R b c → R a c) (hl : ∀ a b, R (op a b) a) (hr : ∀ a b, R (op a b) b)
    (hsel : ∀ a b, op a b = a ∨ op a b = b) (init : α) (g : β → α) (s : Finset β) :
    R (s.fold op init g) init ∧ (∀ k ∈ s, R (s.fold op init g) (g k))
      ∧ (s.fold op init g = init ∨ ∃ k ∈ s, g k = s.fold op init g) := by
  classical
  induction s using Finset.induction_on with
  | empty => exact ⟨hrefl _, fun k hk => absurd hk (Finset.notMem_empty k), .inl rfl⟩
  | insert a s ha ih =>
    obtain ⟨h1, h2, h3⟩ := ih
    rw [Finset.fold_insert ha]
    refine ⟨htrans _ _ _ (hr _ _) h1, fun k hk => ?_, ?_⟩
    · rcases Finset.mem_insert.1 hk with rfl | hk
      · exact hl _ _
      · exact htrans _ _ _ (hr _ _) (h2 k hk)
    · rcases hsel (g a) (s.fold op init g) with e | e
      · exact .inr ⟨a, Finset.mem_insert_self _ _, e.symm⟩
      · rcases h3 with h3 | ⟨k, hk, h3⟩
        · exact .inl (e.trans h3)
        · exact .inr ⟨k, Finset.mem_insert_of_mem hk, h3.trans e.symm⟩

/-- The maximum of finitely many numbers is at least each, and is one of them unless it is minus infinity. -/
theorem max_spec {β : Type} (s : Finset β) (g : β → EReal) :
    (∀ k ∈ s, g k ≤ s.fold max ⊥ g) ∧ (⊥ < s.fold max ⊥ g → ∃ k ∈ s, g k = s.fold max ⊥ g) := by
  obtain ⟨-, h2, h3⟩ := fold_spec (max : EReal → EReal → EReal) (fun a b => b ≤ a) (fun _ => le_rfl)
    (fun a b c h h' => h'.trans h) le_max_left le_max_right max_choice ⊥ g s
  exact ⟨h2, fun h => h3.resolve_left fun e => absurd h (by rw [e]; exact lt_irrefl _)⟩

/-- The least of finitely many words is at most each, and is one of them or the greatest word. -/
theorem min_spec {β : Type} (s : Finset β) (g : β → BitVec 32) :
    (∀ k ∈ s, (s.fold IntOp.minsi never g).toInt ≤ (g k).toInt)
      ∧ (s.fold IntOp.minsi never g = never ∨ ∃ k ∈ s, g k = s.fold IntOp.minsi never g) := by
  have e : ∀ a b : BitVec 32, IntOp.minsi a b = if a.toInt < b.toInt then a else b := fun a b => by
    unfold IntOp.minsi
    simp only [BitVec.slt, decide_eq_true_eq]
  obtain ⟨-, h2, h3⟩ := fold_spec (IntOp.minsi : BitVec 32 → BitVec 32 → BitVec 32) (fun a b => a.toInt ≤ b.toInt)
    (fun _ => le_rfl) (fun a b c h h' => h.trans h') (fun a b => by rw [e]; split <;> omega)
    (fun a b => by rw [e]; split <;> omega)
    (fun a b => by rw [e]; split; exact .inl rfl; exact .inr rfl) never g s
  exact ⟨h2, h3⟩

/-- A small number, as a word and back. -/
theorem toInt_small (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- No word is greater than the greatest. -/
theorem le_never (x : BitVec 32) : x.toInt ≤ (never : BitVec 32).toInt := by
  have := BitVec.toInt_lt (x := x)
  rw [show (never : BitVec 32).toInt = 2147483647 from by decide]
  omega

/-- If every word is `v` or the greatest word, and some word is `v`, the least is `v`. -/
theorem min_eq {β : Type} (s : Finset β) (g : β → BitVec 32) (v : BitVec 32) (h : ∀ k ∈ s, g k = never ∨ g k = v)
    (hv : ∃ k ∈ s, g k = v) : s.fold IntOp.minsi never g = v := by
  obtain ⟨h1, h2⟩ := min_spec s g
  obtain ⟨k, hk, e⟩ := hv
  have key : s.fold IntOp.minsi never g = never → s.fold IntOp.minsi never g = v := fun h' => by
    have := h1 k hk
    rw [h', e] at this
    rw [h']
    exact BitVec.eq_of_toInt_eq (le_antisymm this (le_never v))
  rcases h2 with h2 | ⟨k', hk', h2⟩
  · exact key h2
  · rcases h k' hk' with h3 | h3
    · exact key (h2.symm.trans h3)
    · exact h2.symm.trans h3

/-- The least number of a place with a property, taken over words that number the places with it. -/
theorem first_min {n : ℕ} (w : ℕ) (hw : w + n < 2 ^ 31) (P : Fin n → Prop) (g : Fin n → BitVec 32)
    (hg : ∀ k, P k → g k = BitVec.ofNat 32 (w + k.val)) (hg' : ∀ k, ¬ P k → g k = never) (hex : ∃ k, P k) :
    ∃ k, P k ∧ (Finset.univ : Finset (Fin n)).fold IntOp.minsi never g = BitVec.ofNat 32 (w + k.val) ∧ ∀ j, j < k → ¬ P j := by
  obtain ⟨h1, h2⟩ := min_spec Finset.univ g
  obtain ⟨k0, hk0⟩ := hex
  have hsmall : ∀ k : Fin n, (BitVec.ofNat 32 (w + k.val)).toInt = ((w + k.val : ℕ) : ℤ) := fun k =>
    toInt_small _ (by have := k.isLt; omega)
  have hnever : (never : BitVec 32).toInt = 2147483647 := by decide
  have hk : ∃ k, P k ∧ g k = (Finset.univ : Finset (Fin n)).fold IntOp.minsi never g := by
    have h3 := h1 k0 (Finset.mem_univ _)
    rw [hg k0 hk0, hsmall] at h3
    have := k0.isLt
    rcases h2 with h2 | ⟨k, -, h2⟩
    · rw [h2, hnever] at h3
      omega
    · refine ⟨k, Classical.byContradiction fun hP => ?_, h2⟩
      rw [← h2, hg' k hP, hnever] at h3
      omega
  obtain ⟨k, hP, e⟩ := hk
  refine ⟨k, hP, e.symm.trans (hg k hP), fun j hj hPj => ?_⟩
  have h3 := h1 j (Finset.mem_univ _)
  rw [← e, hg k hP, hg j hPj, hsmall, hsmall] at h3
  have : j.val < k.val := hj
  omega

/-- `v` is the greatest value of `f` from `lo` up to `hi`, and `p` the first place it stands at; where `v` is minus
    infinity nothing is said of `p`. -/
def Best (f : ℕ → EReal) (lo hi : ℕ) (v : EReal) (p : BitVec 32) : Prop :=
  (∀ j, lo ≤ j → j < hi → f j ≤ v)
    ∧ (⊥ < v → ∃ k, lo ≤ k ∧ k < hi ∧ p = BitVec.ofNat 32 k ∧ f k = v ∧ ∀ j, lo ≤ j → j < k → f j < v)

/-- Before the first place. -/
theorem Best.none (f : ℕ → EReal) (lo : ℕ) (p : BitVec 32) : Best f lo lo ⊥ p :=
  ⟨fun j h h' => absurd h' (by omega), fun h => absurd h (lt_irrefl _)⟩

/-- Two neighbouring stretches: the later one's best is taken only when it is greater. -/
theorem Best.merge {f : ℕ → EReal} {lo mid hi : ℕ} {v v' : EReal} {p p' : BitVec 32} (h : Best f lo mid v p)
    (h' : Best f mid hi v' p') (h1 : lo ≤ mid) (h2 : mid ≤ hi) :
    Best f lo hi (if v < v' then v' else v) (if v < v' then p' else p) := by
  obtain ⟨a, b⟩ := h
  obtain ⟨a', b'⟩ := h'
  by_cases hv : v < v'
  · rw [if_pos hv, if_pos hv]
    refine ⟨fun j hj hj' => ?_, fun hb => ?_⟩
    · by_cases hm : j < mid
      · exact (a j hj hm).trans hv.le
      · exact a' j (by omega) hj'
    · obtain ⟨k, k1, k2, k3, k4, k5⟩ := b' hb
      refine ⟨k, by omega, k2, k3, k4, fun j hj hj' => ?_⟩
      by_cases hm : j < mid
      · exact (a j hj hm).trans_lt hv
      · exact k5 j (by omega) hj'
  · rw [if_neg hv, if_neg hv]
    refine ⟨fun j hj hj' => ?_, fun hb => ?_⟩
    · by_cases hm : j < mid
      · exact a j hj hm
      · exact (a' j (by omega) hj').trans (not_lt.1 hv)
    · obtain ⟨k, k1, k2, k3, k4, k5⟩ := b hb
      exact ⟨k, k1, by omega, k3, k4, k5⟩

/-- A stretch's maximum, with the least matching place. -/
theorem Best.of_fold {n : ℕ} (f : ℕ → EReal) (w : ℕ) (hw : w + n < 2 ^ 31) (g : Fin n → EReal) (c : Fin n → BitVec 32)
    (hg : ∀ k, g k = f (w + k.val)) (v : EReal) (hv : v = (Finset.univ : Finset (Fin n)).fold max ⊥ g)
    (hc : ∀ k, g k = v → c k = BitVec.ofNat 32 (w + k.val)) (hc' : ∀ k, g k ≠ v → c k = never) :
    Best f w (w + n) v ((Finset.univ : Finset (Fin n)).fold IntOp.minsi never c) := by
  obtain ⟨h1, h2⟩ := max_spec Finset.univ g
  rw [← hv] at h1 h2
  refine ⟨fun j hj hj' => ?_, fun hb => ?_⟩
  · have := h1 ⟨j - w, by omega⟩ (Finset.mem_univ _)
    rw [hg] at this
    rwa [show w + (j - w) = j by omega] at this
  · obtain ⟨k0, -, hk0⟩ := h2 hb
    obtain ⟨k, hP, e, hf⟩ := first_min w hw (fun k => g k = v) c hc hc' ⟨k0, hk0⟩
    refine ⟨w + k.val, by omega, by have := k.isLt; omega, e, (hg k).symm.trans hP, fun j hj hj' => ?_⟩
    have h3 := hf ⟨j - w, by have := k.isLt; omega⟩ (show j - w < k.val by omega)
    have h4 := h1 ⟨j - w, by have := k.isLt; omega⟩ (Finset.mem_univ _)
    rw [hg] at h4
    rw [hg] at h3
    rw [show w + (j - w) = j by omega] at h3 h4
    exact lt_of_le_of_ne h4 h3

end Cert.First

end
-- ==== Proof.Noise.lean ====
module

public import proofs.«01_k».proof.Proof.Words
public import proofs.«01_k».proof.Proof.Margin
public import proofs.«01_k».proof.Proof.RefRead
public import Idealize.ShloMosaic.PureOps.Ideal.Laws

/-!
# The noise as real numbers

`draw r c` is the 23-bit word that the generator gives for row `r` and column `c`. The reference's noise there is that of
its rescaled fraction (`reference_noise`), the kernel's that of its clipped fraction (`kernel_noise`).
-/

@[expose] public section

set_option maxRecDepth 65536

noncomputable section

namespace Cert.Noise

open Idealize.ShloMosaic

/-! ### Constants -/

/-- What a pattern of a positive normal number denotes. -/
theorem ieee_normal (b : BitVec 32) (ex fr : ℕ) (hs : b.extractLsb' 31 1 = 0#1) (he : (b.extractLsb' 23 8).toNat = ex)
    (h0 : ex ≠ 0) (h1 : ex ≠ 255) (hf : (b.extractLsb' 0 23).toNat = fr) :
    FloatOps.ofBits (F := Ideal) .f32 b = (((2 ^ 23 + fr : ℕ) * (2 : ℝ) ^ ((ex : ℤ) - 150) : ℝ) : EReal) := by
  subst he hf
  show Ideal.ieee 8 23 b = _
  unfold Ideal.ieee
  simp only [hs]
  have e : (2 : ℕ) ^ 8 - 1 = 255 := by norm_num
  rw [e, if_neg h1, if_neg h0]
  congr 1
  simp
  congr 1
  norm_num
  ring_nf
  simp

/-- The bits of one, -/
theorem one_bits : FloatOps.ofBits (F := Ideal) .f32 0x3F800000#32 = ((1 : ℝ) : EReal) := by
  rw [ieee_normal _ 127 0 (by decide) (by decide) (by decide) (by decide) (by decide)]
  norm_num

/-- of the least normal number, -/
theorem tiny_bits : FloatOps.ofBits (F := Ideal) .f32 0x00800000#32 = ((Margin.tiny : ℝ) : EReal) := by
  rw [ieee_normal _ 1 0 (by decide) (by decide) (by decide) (by decide) (by decide)]
  unfold Margin.tiny
  norm_num

/-- of zero, -/
theorem zero_bits : FloatOps.ofBits (F := Ideal) .f32 0x00000000#32 = 0 := by
  show Ideal.ieee 8 23 (0x00000000#32) = 0
  unfold Ideal.ieee
  simp

/-- of minus infinity, -/
theorem bot_bits : FloatOps.ofBits (F := Ideal) .f32 0xFF800000#32 = ⊥ := by
  show Ideal.ieee 8 23 (0xFF800000#32) = ⊥
  unfold Ideal.ieee
  simp

/-- and of infinity. -/
theorem top_bits : FloatOps.ofBits (F := Ideal) .f32 0x7F800000#32 = ⊤ := by
  show Ideal.ieee 8 23 (0x7F800000#32) = ⊤
  unfold Ideal.ieee
  simp

/-- The precondition's margin is at least nine ten-thousandths. -/
theorem margin_bits : ∃ d : ℝ, 9 / 10000 ≤ d ∧ FloatOps.ofBits (F := Ideal) .f32 0x3A83126F#32 = (d : EReal) := by
  refine ⟨_, ?_, ieee_normal _ 117 201327 (by decide) (by decide) (by decide) (by decide) (by decide)⟩
  norm_num

/-- The number the reference adds to the probabilities is positive and tiny. -/
theorem speck_bits : ∃ e : ℝ, 0 ≤ e ∧ e ≤ 2 / 10 ^ 20 ∧ 0 < e ∧ FloatOps.ofBits (F := Ideal) .f32 0x1E3CE508#32 = (e : EReal) := by
  refine ⟨_, ?_, ?_, ?_, ieee_normal _ 60 3990792 (by decide) (by decide) (by decide) (by decide) (by decide)⟩
  · positivity
  · norm_num
  · positivity

/-! ### The fraction -/

/-- The number between one and two made of a word, less one, is the word's fraction. -/
theorem fraction (x : BitVec 32) :
    FloatOps.ofBits (F := Ideal) .f32 (x >>> 9 ||| 1065353216#32) - ((1 : ℝ) : EReal)
      = ((Margin.frac (x >>> 9).toNat : ℝ) : EReal) := by
  have hc : ∀ i : ℕ, i < 23 → (1065353216#32).getLsbD i = false := by decide
  have hd : ∀ i : ℕ, i < 8 → (1065353216#32).getLsbD (23 + i) = (127#8).getLsbD i := by decide
  have hw : (x >>> 9).toNat < 2 ^ 23 := by
    have h := x.isLt
    rw [BitVec.toNat_ushiftRight, Nat.shiftRight_eq_div_pow]
    omega
  rw [ieee_normal _ 127 (x >>> 9).toNat]
  · rw [← EReal.coe_sub]
    congr 1
    unfold Margin.frac
    push_cast
    norm_num
    ring
  · ext i hi
    have : i = 0 := by omega
    subst this
    simp
  · have : (x >>> 9 ||| 1065353216#32).extractLsb' 23 8 = 127#8 := by
      ext i hi
      have h := hd i hi
      rw [BitVec.getLsbD_eq_getElem hi] at h
      rw [← h]
      simp only [BitVec.getElem_extractLsb', BitVec.getLsbD_or, BitVec.getLsbD_ushiftRight]
      rw [BitVec.getLsbD_of_ge x (9 + (23 + i)) (by omega), Bool.false_or]
    rw [this]; rfl
  · decide
  · decide
  · have : (x >>> 9 ||| 1065353216#32).extractLsb' 0 23 = (x >>> 9).setWidth 23 := by
      ext i hi
      simp [hc i hi, BitVec.getLsbD_or]
    rw [this, BitVec.toNat_setWidth, Nat.mod_eq_of_lt hw]

/-- The generator's word for row `r` and column `c`. -/
def bits (r c : ℕ) : BitVec 32 :=
  (Words.cipher 0#32 42#32 (0#32, BitVec.ofNat 32 (1000000 * r + c))).1
    ^^^ (Words.cipher 0#32 42#32 (0#32, BitVec.ofNat 32 (1000000 * r + c))).2

/-- Its upper 23 bits. -/
def draw (r c : ℕ) : ℕ := (bits r c >>> 9).toNat

/-- It is below two to the 23rd. -/
theorem draw_lt (r c : ℕ) : draw r c < 2 ^ 23 := by
  have h := (bits r c).isLt
  unfold draw
  rw [BitVec.toNat_ushiftRight, Nat.shiftRight_eq_div_pow]
  omega

/-- The logarithm of a positive number. -/
theorem log_pos {u : ℝ} (h : 0 < u) : Ideal.log ((u : ℝ) : EReal) = ((Real.log u : ℝ) : EReal) := by
  rw [Ideal.log_coe, if_neg (not_le.2 h)]

/-- The generator's first key word as the reference cuts it from the seed. -/
abbrev key0 : IVec ReferenceIdeal.S_ 32 :=
  shapeCast ReferenceIdeal.S_ (extractStridedSlice ReferenceIdeal.S1 ![0] ReferenceIdeal.Line.seed
    Cert.Pre_finite_with_clear_winners.facts.slices_S2_S1_0) Cert.Pre_finite_with_clear_winners.facts.shapeCasts_S1_S_

/-- The second one. -/
abbrev key1 : IVec ReferenceIdeal.S_ 32 :=
  shapeCast ReferenceIdeal.S_ (extractStridedSlice ReferenceIdeal.S1 ![1] ReferenceIdeal.Line.seed
    Cert.Pre_finite_with_clear_winners.facts.slices_S2_S1_1) Cert.Pre_finite_with_clear_winners.facts.shapeCasts_S1_S_

/-- The first key word is zero, -/
theorem key0_at (j : ReferenceIdeal.S32x1000000.Idx) : ReferenceIdeal.Line.keyAt key0 j = 0#32 := by
  sl_kernel_rfl

/-- and the second is 42. -/
theorem key1_at (j : ReferenceIdeal.S32x1000000.Idx) : ReferenceIdeal.Line.keyAt key1 j = 42#32 := by
  have h : ∀ k : ReferenceIdeal.S_.Idx, key1 k = 42#32 := fun k => by
    rw [show k = (fun a : Fin 0 => a.elim0) from funext fun a => a.elim0]
    decide +kernel
  exact h _

open ReferenceIdeal ReferenceIdeal.Line in
/-- A place's number, -/
theorem place64_at (j : S32x1000000.Idx) : place64 j = BitVec.ofNat 64 (1000000 * (j 0).val + (j 1).val) := by
  have hj0 : (j 0).val < 32 := (j 0).isLt
  have hj1 : (j 1).val < 1000000 := (j 1).isLt
  show 1000000#64 * BitVec.ofNat 64 (j 0).val + 1#64 * BitVec.ofNat 64 (j 1).val = _
  rw [BitVec.one_mul]
  apply BitVec.eq_of_toNat_eq
  simp only [BitVec.toNat_add, BitVec.toNat_mul, BitVec.toNat_ofNat]
  omega

open ReferenceIdeal ReferenceIdeal.Line in
/-- its low word, -/
theorem lowCounter_at (j : S32x1000000.Idx) : lowCounter j = BitVec.ofNat 32 (1000000 * (j 0).val + (j 1).val) := by
  have hj0 : (j 0).val < 32 := (j 0).isLt
  have hj1 : (j 1).val < 1000000 := (j 1).isLt
  show (place64 j).setWidth 32 = _
  rw [place64_at]
  apply BitVec.eq_of_toNat_eq
  simp only [BitVec.toNat_setWidth, BitVec.toNat_ofNat]
  omega

open ReferenceIdeal ReferenceIdeal.Line in
/-- and its high word, which is zero. -/
theorem highCounter_at (j : S32x1000000.Idx) : highCounter j = 0#32 := by
  have hj0 : (j 0).val < 32 := (j 0).isLt
  have hj1 : (j 1).val < 1000000 := (j 1).isLt
  show (IntOp.shrui .host (place64 j) 32#64).setWidth 32 = _
  rw [place64_at]
  unfold IntOp.shrui
  rw [if_pos (by decide)]
  apply BitVec.eq_of_toNat_eq
  simp only [BitVec.toNat_setWidth, BitVec.ushiftRight_eq', BitVec.toNat_ushiftRight, BitVec.toNat_ofNat,
    Nat.shiftRight_eq_div_pow, Nat.reduceMod, Nat.reducePow]
  rw [Nat.mod_eq_of_lt (a := 1000000 * (j 0).val + (j 1).val) (by omega),
    Nat.div_eq_of_lt (by omega)]

open ReferenceIdeal ReferenceIdeal.Line in
/-- The reference's number between zero and one made of a word. -/
theorem uniform_at (v : IVec S32x1000000 32) (j : S32x1000000.Idx) :
    Cert.Pre_finite_with_clear_winners.fn_uniform_part1 (F := Ideal) (ends 0x00800000#32) (ends 0x3F800000#32) v j
      = ((Margin.scaled (v j >>> 9).toNat : ℝ) : EReal) := by
  show max (FloatOps.ofBits (F := Ideal) .f32 0x00800000#32)
    ((FloatOps.ofBits (F := Ideal) .f32 (v j >>> 9 ||| 1065353216#32) - FloatOps.ofBits (F := Ideal) .f32 0x3F800000#32)
      * (FloatOps.ofBits (F := Ideal) .f32 0x3F800000#32 - FloatOps.ofBits (F := Ideal) .f32 0x00800000#32)
      + FloatOps.ofBits (F := Ideal) .f32 0x00800000#32) = _
  rw [one_bits, tiny_bits, fraction, ← EReal.coe_sub, ← EReal.coe_mul, ← EReal.coe_add]
  exact (EReal.coe_strictMono.monotone.map_max).symm

open ReferenceIdeal ReferenceIdeal.Line in
/-- The reference's noise, at a place. -/
theorem reference_noise (j : S32x1000000.Idx) :
    noise j = ((Margin.noise (Margin.scaled (draw (j 0).val (j 1).val)) : ℝ) : EReal) := by
  have hpos := Margin.scaled_pos (draw (j 0).val (j 1).val)
  have hlog := Margin.neg_log_scaled_pos (draw_lt (j 0).val (j 1).val)
  have hw := Words.threefry_apply key0 key1 highCounter lowCounter j
  rw [lowCounter_at, highCounter_at] at hw
  change _ = Words.cipher (keyAt key0 j) (keyAt key1 j) _ at hw
  rw [key0_at, key1_at] at hw
  have hb := congrArg (fun p : BitVec 32 × BitVec 32 => p.1 ^^^ p.2) hw
  have hn : noise = Host.negf (Host.log (Host.negf (Host.log (Cert.Pre_finite_with_clear_winners.fn_uniform_part1
      (F := Ideal) (ends 0x00800000#32) (ends 0x3F800000#32)
        (xori (Cert.Pre_finite_with_clear_winners.fn_threefry2x32 (F := Ideal) key0 key1 highCounter lowCounter).1
          (Cert.Pre_finite_with_clear_winners.fn_threefry2x32 (F := Ideal) key0 key1 highCounter lowCounter).2))))) := by
    sl_kernel_rfl
  have h1 : ∀ y : FVec Ideal S32x1000000 .f32, Host.negf y j = -(y j) := fun _ => rfl
  have h2 : ∀ y : FVec Ideal S32x1000000 .f32, Host.log y j = Ideal.log (y j) := fun _ => rfl
  have h3 : ∀ y z : IVec S32x1000000 32, xori y z j = y j ^^^ z j := fun _ _ => rfl
  rw [hn, h1, h2, h1, h2, uniform_at, h3]
  generalize Cert.Pre_finite_with_clear_winners.fn_threefry2x32 (F := Ideal) key0 key1 highCounter lowCounter = T at hb ⊢
  have hT : T.1 j ^^^ T.2 j = bits (j 0).val (j 1).val := hb
  rw [hT]
  show -Ideal.log (-Ideal.log ((Margin.scaled (draw (j 0).val (j 1).val) : ℝ) : EReal)) = _
  rw [log_pos hpos, ← EReal.coe_neg, log_pos hlog, ← EReal.coe_neg]
  rfl

/-- The kernel's number between zero and one made of a word. -/
theorem kernel_uniform_at (y : KernelIdeal.Chunk.Words × KernelIdeal.Chunk.Words) (i : KernelIdeal.S32x2048.Idx) :
    KernelIdeal.Chunk.uniform (F := Ideal) y i = ((Margin.clipped ((y.1 i ^^^ y.2 i) >>> 9).toNat : ℝ) : EReal) := by
  show max (FloatOps.ofBits (F := Ideal) .f32 ((y.1 i ^^^ y.2 i) >>> 9 ||| 1065353216#32)
      - FloatOps.ofBits (F := Ideal) .f32 0x3F800000#32) (FloatOps.ofBits (F := Ideal) .f32 0x00800000#32) = _
  rw [one_bits, tiny_bits, fraction]
  exact (EReal.coe_strictMono.monotone.map_max).symm

/-- The kernel's noise, at a place whose counter is that of row `r` and column `c`, with the key's 42 added. -/
theorem kernel_noise (x : KernelIdeal.Chunk.Words) (i : KernelIdeal.S32x2048.Idx) (r c : ℕ)
    (hx : x i = BitVec.ofNat 32 (1000000 * r + c) + 42#32) :
    KernelIdeal.Chunk.gumbel (F := Ideal) x i = ((Margin.noise (Margin.clipped (draw r c)) : ℝ) : EReal) := by
  have hb := congrArg (fun p : BitVec 32 × BitVec 32 => p.1 ^^^ p.2) (Words.hash_apply x i _ hx)
  have h1 : ∀ y : FVec Ideal KernelIdeal.S32x2048 .f32,
      subf KernelIdeal.Chunk.zeros y i = FloatOps.ofBits (F := Ideal) .f32 0x00000000#32 - y i := fun _ => rfl
  have h2 : ∀ y : FVec Ideal KernelIdeal.S32x2048 .f32, log y i = Ideal.log (y i) := fun _ => rfl
  unfold KernelIdeal.Chunk.gumbel
  rw [h1, h2, h1, h2, kernel_uniform_at]
  generalize KernelIdeal.Chunk.hash x = T at hb ⊢
  have hT : T.1 i ^^^ T.2 i = bits r c := hb
  rw [hT, zero_bits]
  show 0 - Ideal.log (0 - Ideal.log ((Margin.clipped (draw r c) : ℝ) : EReal)) = _
  rw [log_pos (Margin.clipped_pos _), zero_sub, zero_sub, ← EReal.coe_neg, log_pos (Margin.neg_log_clipped_pos (draw_lt r c)),
    ← EReal.coe_neg]
  rfl

end Cert.Noise

end
-- ==== Proof.Peak.lean ====
module

public import proofs.«01_k».proof.Proof.RefRead
public import proofs.«01_k».proof.Proof.First
public import proofs.«01_k».proof.Proof.Noise
public import Idealize.ShloMosaic.Lib.Pipeline.Value

/-!
# The reference's reductions, at a row

The arg-maximum of a row is the first column at which the row is greatest (`argmax_first`), the maximum of a row of finite
numbers is one of them (`rowMax_apply`), and the sum is the sum (`rowSum_apply`).
-/

@[expose] public section

set_option maxRecDepth 65536

noncomputable section

namespace Cert.ReferenceIdeal.Line

open Cert.ReferenceIdeal Cert.ReferenceIdeal.Gen
open Idealize.ShloMosaic Idealize.ShloMosaic.TcCoe
open Idealize.ShloMosaic.View

local notation "𝕏" => FVec Ideal S32x1000000 FTy.f32
local notation "𝕋" => FVec Ideal S32 FTy.f32

/-- The place at row `j` and column `k`. -/
def cell (j : S32.Idx) (k : Fin 1000000) : S32x1000000.Idx := fun a =>
  match a with
  | ⟨0, _⟩ => ⟨(j 0).val, (j 0).isLt⟩
  | ⟨1, _⟩ => k

/-- A pair of a value and its place is no better than another: its value is less, or the same at no earlier place. -/
def NoBetter (p q : EReal × BitVec 32) : Prop := p.1 < q.1 ∨ (p.1 = q.1 ∧ q.2.toInt ≤ p.2.toInt)

/-- A pair is no better than itself. -/
theorem NoBetter.refl (p : EReal × BitVec 32) : NoBetter p p := .inr ⟨rfl, le_rfl⟩

/-- Being no better is transitive. -/
theorem NoBetter.trans {p q r : EReal × BitVec 32} (h : NoBetter p q) (h' : NoBetter q r) : NoBetter p r := by
  rcases h with h | ⟨h, hi⟩ <;> rcases h' with h' | ⟨h', hi'⟩
  · exact .inl (h.trans h')
  · exact .inl (h' ▸ h)
  · exact .inl (h ▸ h')
  · exact .inr ⟨h.trans h', hi'.trans hi⟩

/-- The arg-maximum's step keeps the better of two pairs. -/
theorem reducer_eq (a b : EReal × BitVec 32) :
    Cert.Pre_finite_with_clear_winners.reducer_argmax_f32_i32 (F := Ideal) a b
      = if b.1 < a.1 ∨ (a.1 = b.1 ∧ a.2.toInt < b.2.toInt) then a else b := by
  unfold Cert.Pre_finite_with_clear_winners.reducer_argmax_f32_i32
  obtain ⟨x, p⟩ := a
  obtain ⟨y, q⟩ := b
  dsimp only
  rw [Ideal.cmpf_def, Ideal.cmpf_def, Ideal.cmpf_def]
  unfold Ideal.cmp IntOp.cmpi
  dsimp only
  rcases lt_trichotomy y x with h | h | h
  · simp [h, h.ne', IntOp.ori, IntOp.andi, Scalar.select]
  · subst h
    by_cases hp : p.toInt < q.toInt <;> simp [hp, IntOp.ori, IntOp.andi, Scalar.select, BitVec.slt]
  · simp [h.not_gt, h.ne, IntOp.ori, IntOp.andi, Scalar.select]

/-- What running through a list leaves: one of the pairs, and none is better. -/
theorem picks (L : List (EReal × BitVec 32)) (p : EReal × BitVec 32) :
    (L.foldl (Cert.Pre_finite_with_clear_winners.reducer_argmax_f32_i32 (F := Ideal)) p = p
        ∨ L.foldl (Cert.Pre_finite_with_clear_winners.reducer_argmax_f32_i32 (F := Ideal)) p ∈ L)
      ∧ NoBetter p (L.foldl (Cert.Pre_finite_with_clear_winners.reducer_argmax_f32_i32 (F := Ideal)) p)
      ∧ ∀ q ∈ L, NoBetter q (L.foldl (Cert.Pre_finite_with_clear_winners.reducer_argmax_f32_i32 (F := Ideal)) p) := by
  induction L generalizing p with
  | nil => exact ⟨.inl rfl, .refl p, fun q hq => absurd hq List.not_mem_nil⟩
  | cons a L ih =>
    rw [List.foldl_cons]
    obtain ⟨h1, h2, h3⟩ := ih (Cert.Pre_finite_with_clear_winners.reducer_argmax_f32_i32 (F := Ideal) p a)
    generalize hr : L.foldl (Cert.Pre_finite_with_clear_winners.reducer_argmax_f32_i32 (F := Ideal))
      (Cert.Pre_finite_with_clear_winners.reducer_argmax_f32_i32 (F := Ideal) p a) = r at h1 h2 h3 ⊢
    rw [reducer_eq] at h1 h2
    have key : NoBetter p r ∧ NoBetter a r := by
      by_cases h : a.1 < p.1 ∨ (p.1 = a.1 ∧ p.2.toInt < a.2.toInt)
      · rw [if_pos h] at h2
        refine ⟨h2, NoBetter.trans ?_ h2⟩
        rcases h with h | ⟨h, hi⟩
        · exact .inl h
        · exact .inr ⟨h.symm, hi.le⟩
      · rw [if_neg h] at h2
        push Not at h
        refine ⟨NoBetter.trans ?_ h2, h2⟩
        rcases h.1.lt_or_eq with h' | h'
        · exact .inl h'
        · exact .inr ⟨h', h.2 h'⟩
    refine ⟨?_, key.1, fun q hq => ?_⟩
    · split at h1
      · exact h1.imp_right (List.mem_cons_of_mem _)
      · rcases h1 with h1 | h1
        · exact .inr (h1 ▸ List.mem_cons_self)
        · exact .inr (List.mem_cons_of_mem _ h1)
    · rcases List.mem_cons.1 hq with rfl | hq
      · exact key.2
      · exact h3 q hq

/-- The arg-maximum's reduction, of values with their columns. -/
def pairs (x : 𝕏) : S32.Idx → EReal × BitVec 32 :=
  Host.argReduce (Cert.Pre_finite_with_clear_winners.reducer_argmax_f32_i32 (F := Ideal)) x (iotaInDim S32x1000000 32 1)
    (constant S_ .f32 0xFF800000#32) (constantI S_ 32 0#32)
    Cert.Pre_finite_with_clear_winners.facts.reducesTo_S32x1000000_S32_d1 Cert.Pre_finite_with_clear_winners.facts.h_S_

/-- What the arg-maximum leaves of a row's pairs. -/
def chosen (x : 𝕏) (j : S32.Idx) : EReal × BitVec 32 :=
  (Host.argReduceFiber (α := EReal) x (iotaInDim S32x1000000 32 1)
    Cert.Pre_finite_with_clear_winners.facts.reducesTo_S32x1000000_S32_d1 j).foldl
      (Cert.Pre_finite_with_clear_winners.reducer_argmax_f32_i32 (F := Ideal))
      (constant (F := Ideal) S_ .f32 0xFF800000#32 (Shape.Idx.first Cert.Pre_finite_with_clear_winners.facts.h_S_),
        constantI S_ 32 0#32 (Shape.Idx.first Cert.Pre_finite_with_clear_winners.facts.h_S_))

/-- The pairs the arg-maximum of a row runs through: the row's entries with their columns. -/
theorem mem_fiber (x : 𝕏) (h : S32x1000000.ReducesTo [1] S32) (j : S32.Idx) (p : EReal × BitVec 32) :
    p ∈ Host.argReduceFiber (α := EReal) x (iotaInDim S32x1000000 32 1) h j ↔ ∃ k : Fin 1000000, p = (x (cell j k), BitVec.ofNat 32 k.val) := by
  unfold Host.argReduceFiber
  have hd : ∀ n : S32x1000000.Idx, h.drop n = j ↔ (n 0).val = (j 0).val := fun n => by
    constructor
    · rintro rfl
      exact (h.drop_apply_val_of_eq n 0 0).symm
    · intro e
      funext b
      obtain rfl : b = 0 := Subsingleton.elim _ _
      exact Fin.ext ((h.drop_apply_val_of_eq n 0 0).trans e)
  rw [List.mem_map]
  constructor
  · rintro ⟨n, hn, rfl⟩
    have hn := of_decide_eq_true (List.mem_filter.1 hn).2
    refine ⟨S32x1000000.rowMajor.symm n 1, ?_⟩
    have e : S32x1000000.rowMajor.symm n = cell j (S32x1000000.rowMajor.symm n 1) := Shape.idx_ext₂ ((hd _).1 hn) rfl
    exact Prod.ext (congrArg x e) rfl
  · rintro ⟨k, rfl⟩
    refine ⟨S32x1000000.rowMajor (cell j k), List.mem_filter.2 ⟨List.mem_finRange _, decide_eq_true ?_⟩, ?_⟩
    · rw [Equiv.symm_apply_apply]
      exact (hd _).2 rfl
    · rw [Equiv.symm_apply_apply]
      rfl

/-- The arg-maximum is the second half of a reduction of pairs; -/
theorem argmax_second (x : 𝕏) : Cert.Pre_finite_with_clear_winners.fn_argmax (F := Ideal) x = fun j => (pairs x j).2 := rfl

/-- the reduction runs through the row's pairs. -/
theorem pairs_eq (x : 𝕏) (j : S32.Idx) : pairs x j = chosen x j :=
  (congrFun (Ideal.argReduce_eq_reduce2 _ x _ _ _ _ _) j).trans (Host.reduce2_eq_foldl_fiber _ x _ _ _ _ _ j)

/-- The arg-maximum of a row runs through its pairs. -/
theorem argmax_eq (x : 𝕏) (j : S32.Idx) :
    Cert.Pre_finite_with_clear_winners.fn_argmax (F := Ideal) x j = (chosen x j).2 :=
  (congrFun (argmax_second x) j).trans (congrArg Prod.snd (pairs_eq x j))

/-- The arg-maximum of a row of numbers above minus infinity is the first column at which the row is greatest. -/
theorem argmax_first (x : 𝕏) (j : S32.Idx) (hx : ∀ k, (⊥ : EReal) < x (cell j k)) :
    ∃ k : Fin 1000000, Cert.Pre_finite_with_clear_winners.fn_argmax (F := Ideal) x j = BitVec.ofNat 32 k.val
      ∧ (∀ l, x (cell j l) ≤ x (cell j k)) ∧ ∀ l, l < k → x (cell j l) < x (cell j k) := by
  obtain ⟨h1, -, h3⟩ := picks (Host.argReduceFiber (α := EReal) x (iotaInDim S32x1000000 32 1)
    Cert.Pre_finite_with_clear_winners.facts.reducesTo_S32x1000000_S32_d1 j)
    (constant (F := Ideal) S_ .f32 0xFF800000#32 (Shape.Idx.first Cert.Pre_finite_with_clear_winners.facts.h_S_),
      constantI S_ 32 0#32 (Shape.Idx.first Cert.Pre_finite_with_clear_winners.facts.h_S_))
  rw [argmax_eq]
  rw [← chosen] at h1 h3
  have hb : constant (F := Ideal) S_ .f32 0xFF800000#32 (Shape.Idx.first Cert.Pre_finite_with_clear_winners.facts.h_S_) = (⊥ : EReal) :=
    Noise.bot_bits
  rw [hb] at h1
  generalize chosen x j = q at h1 h3 ⊢
  have hall : ∀ l, NoBetter (x (cell j l), BitVec.ofNat 32 l.val) q := fun l => h3 _ ((mem_fiber x _ j _).2 ⟨l, rfl⟩)
  have hq : ∃ k : Fin 1000000, q = (x (cell j k), BitVec.ofNat 32 k.val) := by
    rcases h1 with h1 | h1
    · exfalso
      have h0 := hx 0
      have := hall 0
      rw [h1] at this
      rcases this with h | ⟨h, -⟩
      · exact absurd h not_lt_bot
      · exact absurd h h0.ne'
    · exact (mem_fiber x _ j _).1 h1
  obtain ⟨k, rfl⟩ := hq
  refine ⟨k, rfl, fun l => ?_, fun l hl => ?_⟩
  · rcases hall l with h | ⟨h, -⟩
    · exact h.le
    · exact h.le
  · rcases hall l with h | ⟨-, h⟩
    · exact h
    · exfalso
      have hk := k.isLt
      have hl' := l.isLt
      dsimp only at h
      rw [First.toInt_small _ (by omega), First.toInt_small _ (by omega)] at h
      exact absurd (Fin.lt_def.1 hl) (by omega)

/-- The reductions run along the columns. -/
theorem along_columns : S32x1000000.Reduces [1] S32 := by decide

/-- The places they run along. -/
theorem lift_eq (j : S32.Idx) (k : Fin 1000000) : along_columns.lift j k = cell j k := Shape.idx_ext₂ rfl rfl

/-- The maximum of a row of finite numbers is one of them, and none is greater. -/
theorem rowMax_apply (y : 𝕏) (j : S32.Idx) (s : Fin 1000000 → ℝ) (hy : ∀ k, y (cell j k) = (s k : EReal)) :
    ∃ k, rowMax y j = (s k : EReal) ∧ ∀ l, s l ≤ s k := by
  have e : rowMax y j = (Finset.univ : Finset (Fin 1000000)).fold max ⊥ (fun k => (s k : EReal)) := by
    refine (Host.reduce_eq_fold_single (s := S32x1000000) (t := S32) (a := 1) (FloatOps.maximumf (F := Ideal) (φ := .f32)) y _
      Cert.Pre_finite_with_clear_winners.facts.reducesTo_S32x1000000_S32_d1 along_columns
      Cert.Pre_finite_with_clear_winners.facts.h_S_ j).trans ?_
    show (Finset.univ : Finset (Fin 1000000)).fold max (FloatOps.ofBits (F := Ideal) .f32 0xFF800000#32) _ = _
    rw [Noise.bot_bits]
    congr 1
    funext k
    exact (congrArg y (lift_eq j k)).trans (hy k)
  obtain ⟨h1, h2⟩ := First.max_spec (Finset.univ : Finset (Fin 1000000)) (fun k => (s k : EReal))
  rw [← e] at h1 h2
  obtain ⟨k, -, hk⟩ := h2 (lt_of_lt_of_le (EReal.bot_lt_coe _) (h1 0 (Finset.mem_univ _)))
  refine ⟨k, hk.symm, fun l => ?_⟩
  have := h1 l (Finset.mem_univ _)
  rw [← hk] at this
  exact_mod_cast this

/-- A sum of finite numbers is finite. -/
theorem coe_sum {ι : Type} (S : Finset ι) (f : ι → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

/-- The sum of a row of finite numbers. -/
theorem rowSum_apply (y : 𝕏) (j : S32.Idx) (s : Fin 1000000 → ℝ) (hy : ∀ k, y (cell j k) = (s k : EReal)) :
    rowSum y j = ((∑ k, s k : ℝ) : EReal) := by
  refine (Ideal.hostReduceAdd_single Cert.Pre_finite_with_clear_winners.facts.reducesTo_S32x1000000_S32_d1 along_columns y
    (FloatOps.ofBits (F := Ideal) .f32 0x00000000#32) j).trans ?_
  rw [Noise.zero_bits, zero_add, ← coe_sum]
  exact Finset.sum_congr rfl fun k _ => (congrArg y (lift_eq j k)).trans (hy k)

end Cert.ReferenceIdeal.Line

end
-- ==== Proof.Value.lean ====
module

public import proofs.«01_k».proof.Proof.Chunk
public import proofs.«01_k».proof.Proof.Points
public import Idealize.ShloMosaic.Lib.WholeRead
public import Idealize.ShloMosaic.Lib.VecWindow
public import Idealize.ShloMosaic.Lib.WritesUnit

/-!
# What the kernel computes, as a function of its arguments

The logits are read in 31 blocks of 32768 columns, the last of which overhangs the array. `block x b` is block `b`
with minus infinity past the last column; `maxOf` and `bestOf` are a block's maximum and its best perturbed score with
that score's column, and `answer` merges the 31 blocks'. The lemmas say that the body's values are these whatever a
staging buffer holds past the array's end, and what is read back from the scratch columns.
-/

@[expose] public section

set_option maxRecDepth 65536

noncomputable section

namespace Cert.KernelIdeal.Value

open Cert.KernelIdeal Cert.KernelIdeal.Gen Cert.KernelIdeal.Body Cert.KernelIdeal.Chunk
open Idealize.ShloMosaic Idealize.ShloMosaic.TcCoe
open Idealize.ShloMosaic.View

variable {F : FTy → Type} [FloatOps F]

/-- The place at row `r` and column `c` of the logits. -/
def place {r c : ℕ} (hr : r < 32) (hc : c < 1000000) : S32x1000000.Idx := fun a =>
  match a with
  | ⟨0, _⟩ => ⟨r, hr⟩
  | ⟨1, _⟩ => ⟨c, hc⟩

/-- The logit of row `r` and column `c`; outside the array, minus infinity. -/
def logit (x : FVec F S32x1000000 .f32) (r c : ℕ) : F .f32 :=
  if h : r < 32 ∧ c < 1000000 then x (place h.1 h.2) else Scalar.ofBits .f32 0xFF800000#32

/-- An entry of the logits is the logit of its row and column. -/
theorem logit_eq (x : FVec F S32x1000000 .f32) (k : S32x1000000.Idx) (r c : ℕ) (hr : (k 0).val = r) (hc : (k 1).val = c) :
    x k = logit x r c := by
  subst hr hc
  have h0 : (k 0).val < 32 := (k 0).isLt
  have h1 : (k 1).val < 1000000 := (k 1).isLt
  unfold logit
  rw [dif_pos ⟨h0, h1⟩]
  congr 1
  funext a
  fin_cases a <;> rfl

/-- Block `b` of the logits. -/
def block (x : FVec F S32x1000000 .f32) (b : ℕ) : FVec F S32x32768 .f32 :=
  fun j => logit x (j 0).val (32768 * b + (j 1).val)

/-- `f` is block `b` on the columns inside the array. -/
def Holds (x : FVec F S32x1000000 .f32) (b : ℕ) (f : FVec F S32x32768 .f32) : Prop :=
  ∀ j, 32768 * b + (j 1).val < 1000000 → f j = block x b j

/-- A block that does not overhang is held whole. -/
theorem Holds.eq {x : FVec F S32x1000000 .f32} {b : ℕ} {f : FVec F S32x32768 .f32} (h : Holds x b f) (hb : b < 30) :
    f = block x b := funext fun j => h j (by
  have : (j 1).val < 32768 := (j 1).isLt
  omega)

/-- The place of a block that chunk `n` has at `j`. -/
def within (n : ℕ) (j : S32x2048.Idx) : S32x32768.Idx := fun a =>
  match a with
  | ⟨0, _⟩ => ⟨(j 0).val, (j 0).isLt⟩
  | ⟨1, _⟩ => ⟨2048 * (n % 16) + (j 1).val, by
      have h : (j 1).val < 2048 := (j 1).isLt
      have := Nat.mod_lt n (by decide : 16 > 0)
      show _ < 32768
      omega⟩

/-- Chunk `n` of a block. -/
def piece (f : FVec F S32x32768 .f32) (n : ℕ) : FVec F S32x2048 .f32 := fun j => f (within n j)

/-- What the body loads as chunk `n` is chunk `n` of what the buffer reads. -/
theorem chunk_eq (c : Dev nD) (M4 : Memref sig .tc .vmem S32x32768 .f32) (f4 : Bf (F := F) c M4) (n : ℕ) :
    chunk c M4 f4 n = piece (M4.view.read (Elt F) f4) n := by
  funext j
  show M4.view.read (Elt F) f4 _ = M4.view.read (Elt F) f4 _
  congr 1
  funext a
  apply Fin.ext
  fin_cases a
  · show 0 + 1 * (j 0).val = (j 0).val
    omega
  · show 2048 * (n % 16) + 1 * (j 1).val = 2048 * (n % 16) + (j 1).val
    omega

/-- The maximum of block `b`; -/
def maxOf (x : FVec F S32x1000000 .f32) (b : ℕ) : FVec F S32x1 .f32 := k0_pay12 (block x b)

/-- its best perturbed score, and that score's column, for temperatures `T` and counter offsets `O`. -/
def bestOf (x : FVec F S32x1000000 .f32) (T : FVec F S32x1 .f32) (O : IVec S32x1 32) (b : ℕ) :
    FVec F S32x1 .f32 × IVec S32x1 32 :=
  sampled (k0_pay5 T) (k0_pay6 T) (k0_pay7 T (maxOf x b)) O (BitVec.ofNat 32 (32768 * b)) (fun _ n => piece (block x b) n) 16

/-- A column's place. -/
def row (j : S31x32x1.Idx) : S32x1.Idx := fun a => j a.succ

/-- Columns stacked. -/
def stack {α : Type} (g : ℕ → S32x1.Idx → α) : S31x32x1.Idx → α := fun j => g (j 0).val (row j)

/-- What the kernel answers. -/
def answer (x : FVec F S32x1000000 .f32) (T : FVec F S32x1 .f32) (O : IVec S32x1 32) : IVec S32x1 32 :=
  k0_pay14 T (stack (maxOf x)) (stack fun b => (bestOf x T O b).1) (stack fun b => (bestOf x T O b).2)

/-- A small word compared with the number of columns. -/
theorem slt_small (n : ℕ) (h : n < 2 ^ 31) : (BitVec.ofNat 32 n).slt 1000000#32 = decide (n < 1000000) := by
  have e : (BitVec.ofNat 32 n).toInt = n := by
    rw [BitVec.toInt_eq_toNat_of_lt (by rw [BitVec.toNat_ofNat]; omega), BitVec.toNat_ofNat, Nat.mod_eq_of_lt (by omega)]
  unfold BitVec.slt
  rw [e, show (1000000#32).toInt = 1000000 from by decide]
  exact decide_eq_decide.2 (by omega)

/-- Taking the last block's masked maximum is taking the maximum of the block filled out with minus infinity. -/
theorem pay13_eq {x : FVec F S32x1000000 .f32} {f : FVec F S32x32768 .f32} (i : grid0.Coords) (hi : (i 0).val = 30)
    (h : Holds x 30 f) : k0_pay13 i f = maxOf x 30 := by
  have e : select (cmpi .slt (addi (iota .tc S32x32768 32 [1] iota_S32x32768_d1_w32)
      (broadcast S32x32768 (Scalar.muli (BitVec.ofNat 32 (i 0).val) 32768#32))) (broadcast S32x32768 1000000#32)) f
      (broadcast S32x32768 (Scalar.ofBits .f32 0xFF800000#32)) = block x 30 := by
    funext j
    have hj : (j 1).val < 32768 := (j 1).isLt
    rw [hi]
    show Scalar.select (BitVec.ofBool ((iota .tc S32x32768 32 [1] iota_S32x32768_d1_w32 j
      + Scalar.muli (BitVec.ofNat 32 30) 32768#32).slt 1000000#32)) (f j) (Scalar.ofBits .f32 0xFF800000#32) = _
    rw [iota_single_apply, show Scalar.muli (BitVec.ofNat 32 30) 32768#32 = BitVec.ofNat 32 983040 from by decide,
      ← BitVec.ofNat_add, slt_small _ (by omega)]
    by_cases hc : (j 1).val + 983040 < 1000000
    · rw [decide_eq_true hc]
      show f j = _
      exact h j (by omega)
    · rw [decide_eq_false hc]
      show Scalar.ofBits .f32 0xFF800000#32 = _
      unfold block logit
      rw [dif_neg (by omega)]
  show k0_pay12 _ = k0_pay12 _
  exact congrArg k0_pay12 e

/-- The running best depends only on the chunks it has met. -/
theorem sampled_congr (v17 v22 v24 : FVec F S32x1 .f32) (offs : IVec S32x1 32) (v26 : BitVec 32)
    (xs ys : BitVec 32 → ℕ → FVec F S32x2048 .f32) (N : ℕ) (h : ∀ n, n < N → xs (start v26 n) n = ys (start v26 n) n) :
    sampled v17 v22 v24 offs v26 xs N = sampled v17 v22 v24 offs v26 ys N := by
  induction N with
  | zero => rfl
  | succ N ih =>
    unfold sampled
    rw [ih fun n hn => h n (by omega), h N (by omega)]

/-- Filling out the last block's chunks with minus infinity makes them the filled-out block's. -/
theorem tail_eq {x : FVec F S32x1000000 .f32} {f : FVec F S32x32768 .f32} (h : Holds x 30 f) (n : ℕ) (hn : n < 16) :
    tail (piece f n) (start (BitVec.ofNat 32 (32768 * 30)) n) = piece (block x 30) n := by
  funext j
  have hj : (j 1).val < 2048 := (j 1).isLt
  show Scalar.select (BitVec.ofBool ((iota .tc S32x2048 32 [1] iota_S32x2048_d1_w32 j
    + Scalar.addi (BitVec.ofNat 32 (32768 * 30)) (BitVec.ofNat 32 (2048 * n))).slt 1000000#32)) (f (within n j))
      (Scalar.ofBits .f32 0xFF800000#32) = block x 30 (within n j)
  rw [iota_single_apply, show Scalar.addi (BitVec.ofNat 32 (32768 * 30)) (BitVec.ofNat 32 (2048 * n))
      = BitVec.ofNat 32 (983040 + 2048 * n) from (BitVec.ofNat_add _ _).symm,
    ← BitVec.ofNat_add, slt_small _ (by omega)]
  have hw : ((within n j) 1).val = 2048 * n + (j 1).val := by
    show 2048 * (n % 16) + (j 1).val = _
    rw [Nat.mod_eq_of_lt hn]
  by_cases hc : (j 1).val + (983040 + 2048 * n) < 1000000
  · rw [decide_eq_true hc]
    show f _ = _
    exact h _ (by rw [hw]; omega)
  · rw [decide_eq_false hc]
    show Scalar.ofBits .f32 0xFF800000#32 = _
    unfold block logit
    rw [dif_neg (by rw [hw]; omega)]

/-! ### Reading back -/

/-- A column stored whole is read back. -/
theorem read1_put1 (c : Dev nD) {e : EltTy} (M : Memref sig .tc .vmem S32x1 e) (f : Bf (F := F) c M) (v : S32x1.Idx → Elt F e) :
    M.view.read (Elt F) (put1 c M f v) = v := read_writes_full _ _ _ _ _

/-- Reading a whole column, -/
theorem read1_eq (c : Dev nD) {e : EltTy} (M : Memref sig .tc .vmem S32x1 e) (f : Bf (F := F) c M) :
    read1 c M f = M.view.read (Elt F) f := readAt_full _ _ _

/-- a whole block, -/
theorem readBlock_eq (c : Dev nD) (M : Memref sig .tc .vmem S32x32768 .f32) (f : Bf (F := F) c M) :
    readBlock c M f = M.view.read (Elt F) f := readAt_full _ _ _

/-- and a whole stack gives its contents. -/
theorem read3_eq (c : Dev nD) {e : EltTy} (M : Memref sig .tc .vmem S31x32x1 e) (f : Bf (F := F) c M) :
    read3 c M f = M.view.read (Elt F) f := readAt_full _ _ _

/-- A stack's row is read back where it was stored, and the other rows are as they were. -/
theorem read3_putRow (c : Dev nD) {e : EltTy} (M : Memref sig .tc .vmem S31x32x1 e) (f : Bf (F := F) c M) (o : Fin 3 → ℕ) (n : ℕ)
    (hn : o = ![n, 0, 0]) (ho : ∀ a, o a + S1x32x1.size a ≤ S31x32x1.size a) (v : S32x1.Idx → Elt F e) (j : S31x32x1.Idx) :
    M.view.read (Elt F) (putRow c M f o ho (cell v)) j = if (j 0).val = n then v (row j) else M.view.read (Elt F) f j := by
  by_cases h : (j 0).val = n
  · rw [if_pos h]
    let k : S1x32x1.Idx := fun a =>
      match a with
      | ⟨0, _⟩ => ⟨0, Nat.one_pos⟩
      | ⟨1, _⟩ => ⟨(j 1).val, (j 1).isLt⟩
      | ⟨2, _⟩ => ⟨(j 2).val, (j 2).isLt⟩
    rw [read_writes_cons_unit_of_mem M.view f (off := o) (off' := ![n, 0, 0]) (size := S1x32x1.size) ho (cell v) [] j k hn (by
      intro a
      fin_cases a
      · show (j 0).val = n + 0; omega
      · show (j 1).val = 0 + (j 1).val; omega
      · show (j 2).val = 0 + (j 2).val; omega)]
    unfold cell
    rw [shapeCast_self]
    refine (shapeCast_addUnit_apply _ v _ k).trans (congrArg v (funext fun a => ?_))
    fin_cases a <;> rfl
  · rw [if_neg h]
    refine (read_writes_cons_unit_of_not_mem M.view f (off := o) (off' := ![n, 0, 0]) (size := S1x32x1.size) ho (cell v) [] j hn 0 ?_)
    show (j 0).val < n ∨ n + 1 ≤ (j 0).val
    omega

end Cert.KernelIdeal.Value

end
-- ==== Proof.Stretch.lean ====
module

public import proofs.«01_k».proof.Proof.First
public import proofs.«01_k».proof.Proof.Noise
public import proofs.«01_k».proof.Proof.Value

/-!
# A block's best score over the reals

Over the extended reals the running best the kernel keeps for a block is the block's greatest score and the first column
it stands at.
-/

@[expose] public section

set_option maxRecDepth 65536

noncomputable section

namespace Cert.KernelIdeal.Value

open Cert.KernelIdeal Cert.KernelIdeal.Gen Cert.KernelIdeal.Body Cert.KernelIdeal.Chunk Cert.First
open Idealize.ShloMosaic Idealize.ShloMosaic.TcCoe
open Idealize.ShloMosaic.View

/-- The place of row `i` at column `k` of a chunk. -/
def spot (i : S32x1.Idx) (k : Fin 2048) : S32x2048.Idx := fun a =>
  match a with
  | ⟨0, _⟩ => ⟨(i 0).val, (i 0).isLt⟩
  | ⟨1, _⟩ => ⟨k.val, k.isLt⟩

/-- A column of numbers along a chunk. -/
theorem along_apply {α : Type} (v : S32x1.Idx → α) (i : S32x1.Idx) (k : Fin 2048) : along v (spot i k) = v i := by
  show v _ = v i
  congr 1
  have h1 : (i 1).val < 1 := (i 1).isLt
  refine Shape.idx_ext₂ ?_ ?_
  · rfl
  · show 0 = (i 1).val
    omega

/-- The row's place in a row of numbers. -/
def flat (i : S32x1.Idx) : S32.Idx := fun a =>
  match a with
  | ⟨0, _⟩ => ⟨(i 0).val, (i 0).isLt⟩

/-- A row of numbers as a column. -/
theorem column_apply {α : Type} (v : S32.Idx → α) (i : S32x1.Idx) :
    shapeCast S32x1 v shapeCasts_S32_S32x1 i = v (flat i) := by
  refine shapeCast_apply _ _ _ _ ?_
  have h1 : (i 1).val < 1 := (i 1).isLt
  rw [Shape.rowMajor_val_one, Shape.rowMajor_val_two]
  show (i 0).val = (i 0).val * 1 + (i 1).val
  omega

/-- Choosing by which of two numbers is greater; -/
theorem select_gt {S : Shape} {α : Type} (a b : FVec Ideal S .f32) (x y : S.Idx → α) (i : S.Idx) :
    select (cmpf .ogt a b) x y i = if b i < a i then x i else y i := by
  show Scalar.select (Ideal.cmp .ogt (a i) (b i)) (x i) (y i) = _
  unfold Scalar.select Ideal.cmp
  by_cases h : b i < a i
  · simp only [h, decide_true, if_true]; rfl
  · simp only [h, decide_false, if_false]; rfl

/-- by whether they are equal; -/
theorem select_eq {S : Shape} {α : Type} (a b : FVec Ideal S .f32) (x y : S.Idx → α) (i : S.Idx) :
    select (cmpf .oeq a b) x y i = if a i = b i then x i else y i := by
  show Scalar.select (Ideal.cmp .oeq (a i) (b i)) (x i) (y i) = _
  unfold Scalar.select Ideal.cmp
  by_cases h : a i = b i
  · simp only [h, decide_true, if_true]; rfl
  · simp only [h, decide_false, if_false]; rfl

/-- by whether two words are equal. -/
theorem select_ieq {S : Shape} {α : Type} (a b : IVec S 32) (x y : S.Idx → α) (i : S.Idx) :
    select (cmpi .eq a b) x y i = if a i = b i then x i else y i := by
  show Scalar.select (BitVec.ofBool (a i == b i)) (x i) (y i) = _
  unfold Scalar.select
  by_cases h : a i = b i
  · rw [h, beq_self_eq_true, if_pos rfl]; rfl
  · rw [beq_false_of_ne h, if_neg h]; rfl

/-- A row's greatest score. -/
theorem top_apply (p : FVec Ideal S32x2048 .f32) (i : S32x1.Idx) :
    top p i = (Finset.univ : Finset (Fin 2048)).fold max ⊥ (fun k => p (spot i k)) := by
  unfold top
  rw [column_apply]
  refine (Ideal.multiReduction_maximumf_single (s := S32x2048) (t := S32) (a := 1) p 0xFF800000#32 reduces_S32x2048_S32
    (.inl rfl) rfl (flat i)).trans ?_
  rw [Noise.bot_bits]
  congr 1
  funext k
  exact congrArg p (Shape.idx_ext₂ rfl rfl)

/-- The least column at which it stands. -/
theorem place_apply (p : FVec Ideal S32x2048 .f32) (c : Words) (i : S32x1.Idx) :
    Chunk.place p c i = (Finset.univ : Finset (Fin 2048)).fold IntOp.minsi never
      (fun k => if p (spot i k) = top p i then c (spot i k) else never) := by
  unfold Chunk.place
  rw [column_apply]
  refine (multiReductionI_eq_fold (s := S32x2048) (t := S32) (axes := [1]) .minsi _ 2147483647#32 reduces_S32x2048_S32
    rfl (flat i)).trans ?_
  refine (Shape.Reduces.fold_filter_drop_single (a := 1) (s := S32x2048) (t := S32) reduces_S32x2048_S32 IntOp.minsi never _ (flat i)).trans ?_
  congr 1
  funext k
  have e : (reduces_S32x2048_S32 : S32x2048.Reduces [1] S32).lift (flat i) k = spot i k := Shape.idx_ext₂ rfl rfl
  have e' : along (top p) ((reduces_S32x2048_S32 : S32x2048.Reduces [1] S32).lift (flat i) k) = top p i :=
    (congrArg _ e).trans (along_apply _ _ _)
  refine (select_eq _ _ _ _ _).trans ?_
  rw [e', e]
  rfl

/-- A chunk whose entries on row `i` are the scores of the columns from `w` gives the best of those columns. -/
theorem chunk_best (f : ℕ → EReal) (p : FVec Ideal S32x2048 .f32) (c : Words) (i : S32x1.Idx) (w : ℕ) (hw : w + 2048 < 2 ^ 31)
    (hp : ∀ k, p (spot i k) = f (w + k.val)) (hc : ∀ k, c (spot i k) = BitVec.ofNat 32 (w + k.val)) :
    Best f w (w + 2048) (top p i) (Chunk.place p c i) := by
  rw [place_apply]
  exact Best.of_fold f w hw (fun k => p (spot i k)) _ hp _ (top_apply p i)
    (fun k hk => (if_pos hk).trans (hc k)) (fun k hk => if_neg hk)

/-- The running best after a chunk. -/
theorem step_best (f : ℕ → EReal) (p : FVec Ideal S32x2048 .f32) (c : Words) (i : S32x1.Idx) (lo w : ℕ) (hlo : lo ≤ w)
    (hw : w + 2048 < 2 ^ 31) (hp : ∀ k, p (spot i k) = f (w + k.val)) (hc : ∀ k, c (spot i k) = BitVec.ofNat 32 (w + k.val))
    (b : FVec Ideal S32x1 .f32 × IVec S32x1 32) (hb : Best f lo w (b.1 i) (b.2 i)) :
    Best f lo (w + 2048) ((step p c b).1 i) ((step p c b).2 i) := by
  have h := hb.merge (chunk_best f p c i w hw hp hc) hlo (by omega)
  unfold step
  dsimp only
  rw [select_gt, select_gt]
  exact h

/-- The running best after any number of chunks. -/
theorem sampled_best (f : ℕ → EReal) (v17 v22 v24 : FVec Ideal S32x1 .f32) (offs : IVec S32x1 32) (xs : ℕ → FVec Ideal S32x2048 .f32)
    (i : S32x1.Idx) (w : ℕ) (N : ℕ) (hw : w + 2048 * N < 2 ^ 31)
    (hs : ∀ n < N, ∀ k, scores v17 v22 v24 offs (BitVec.ofNat 32 (w + 2048 * n)) (xs n) (spot i k) = f (w + 2048 * n + k.val)) :
    ∀ n ≤ N, Best f w (w + 2048 * n) ((sampled v17 v22 v24 offs (BitVec.ofNat 32 w) (fun _ n => xs n) n).1 i)
      ((sampled v17 v22 v24 offs (BitVec.ofNat 32 w) (fun _ n => xs n) n).2 i)
  | 0, _ => by
    have e : (sampled v17 v22 v24 offs (BitVec.ofNat 32 w) (fun _ n => xs n) 0).1 i = ⊥ := Noise.bot_bits
    rw [e]
    exact Best.none f w _
  | n + 1, hn => by
    have ih := sampled_best f v17 v22 v24 offs xs i w N hw hs n (by omega)
    have e : start (BitVec.ofNat 32 w) n = BitVec.ofNat 32 (w + 2048 * n) := (BitVec.ofNat_add _ _).symm
    have e' : sampled v17 v22 v24 offs (BitVec.ofNat 32 w) (fun _ n => xs n) (n + 1)
        = step (scores v17 v22 v24 offs (BitVec.ofNat 32 (w + 2048 * n)) (xs n)) (cols (BitVec.ofNat 32 (w + 2048 * n)))
          (sampled v17 v22 v24 offs (BitVec.ofNat 32 w) (fun _ n => xs n) n) := by
      rw [← e]
      rfl
    rw [e', show w + 2048 * (n + 1) = w + 2048 * n + 2048 by omega]
    refine step_best f _ _ i w (w + 2048 * n) (by omega) (by omega) (hs n (by omega)) (fun k => ?_) _ ih
    show iota .tc S32x2048 32 [1] iota_S32x2048_d1_w32 (spot i k) + BitVec.ofNat 32 (w + 2048 * n) = _
    rw [iota_single_apply, ← BitVec.ofNat_add]
    congr 1
    show k.val + _ = _
    omega

end Cert.KernelIdeal.Value

end
-- ==== Proof.Answer.lean ====
module

public import proofs.«01_k».proof.Proof.Stretch

/-!
# The kernel's answer over the reals

For finite logits and a finite temperature that is not negative, the kernel's answer on a row is the first column at
which the row's perturbed score is greatest (`answer_first`).
-/

@[expose] public section

set_option maxRecDepth 65536

noncomputable section

namespace Cert.KernelIdeal.Value

open Cert.KernelIdeal Cert.KernelIdeal.Gen Cert.KernelIdeal.Body Cert.KernelIdeal.Chunk Cert.First
open Idealize.ShloMosaic Idealize.ShloMosaic.TcCoe
open Idealize.ShloMosaic.View

/-- The temperature a row is divided by, -/
def heat (τ : ℝ) : ℝ := if τ = 0 then 1 else τ

/-- the scale of its noise, -/
def scale (τ : ℝ) : ℝ := if τ = 0 then 0 else 1

/-- and the perturbed score of its column `c`. -/
def score (X : ℕ → ℝ) (τ : ℝ) (r c : ℕ) : ℝ := X c / heat τ + Margin.noise (Margin.clipped (Noise.draw r c)) * scale τ

/-- It is positive. -/
theorem heat_pos {τ : ℝ} (h : 0 ≤ τ) : 0 < heat τ := by
  unfold heat
  split
  · exact one_pos
  · exact lt_of_le_of_ne h (Ne.symm ‹_›)

/-- A finite number divided, -/
theorem div_real {σ : ℝ} (h : 0 < σ) (a : ℝ) : Ideal.div (a : EReal) (σ : EReal) = ((a / σ : ℝ) : EReal) := by
  rw [Ideal.div_coe h.ne', ← EReal.coe_mul]
  congr 1
  field_simp

/-- and minus infinity. -/
theorem div_bot {σ : ℝ} (h : 0 < σ) : Ideal.div (⊥ : EReal) (σ : EReal) = ⊥ := by
  rw [Ideal.div_coe h.ne']
  exact EReal.bot_mul_coe_of_pos (by positivity)

section Row

variable (x : FVec Ideal S32x1000000 .f32) (T : FVec Ideal S32x1 .f32) (O : IVec S32x1 32) (i : S32x1.Idx)
  (X : ℕ → ℝ) (τ : ℝ) (hx : ∀ c < 1000000, logit x (i 0).val c = (X c : EReal)) (hT : T i = (τ : EReal)) (hτ : 0 ≤ τ)
  (hO : O i = BitVec.ofNat 32 (1000000 * (i 0).val) + 42#32)

include hT in
/-- The temperature the kernel divides the row by, -/
theorem safe_apply : k0_pay5 (F := Ideal) T i = (heat τ : EReal) := by
  unfold k0_pay5 k0_pay4
  dsimp only
  rw [shapeCast_self, select_eq]
  show (if T i = FloatOps.ofBits (F := Ideal) .f32 0x00000000#32 then FloatOps.ofBits (F := Ideal) .f32 0x3F800000#32 else T i) = _
  rw [Noise.zero_bits, Noise.one_bits, hT]
  unfold heat
  by_cases h : τ = 0
  · rw [if_pos (by exact_mod_cast h), if_pos h]
  · rw [if_neg (by exact_mod_cast h), if_neg h]

include hT in
/-- and the scale it gives the noise. -/
theorem scale_apply : k0_pay6 (F := Ideal) T i = (scale τ : EReal) := by
  unfold k0_pay6 k0_pay4
  dsimp only
  rw [shapeCast_self, select_eq]
  show (if T i = FloatOps.ofBits (F := Ideal) .f32 0x00000000#32 then FloatOps.ofBits (F := Ideal) .f32 0x00000000#32
    else FloatOps.ofBits (F := Ideal) .f32 0x3F800000#32) = _
  rw [Noise.zero_bits, Noise.one_bits, hT]
  unfold scale
  by_cases h : τ = 0
  · rw [if_pos (by exact_mod_cast h), if_pos h]; rfl
  · rw [if_neg (by exact_mod_cast h), if_neg h]

/-- A block's maximum on a row. -/
theorem maxOf_apply (b : ℕ) : maxOf x b i
    = (Finset.univ : Finset (Fin 32768)).fold max ⊥ (fun k => logit x (i 0).val (32768 * b + k.val)) := by
  unfold maxOf k0_pay12
  dsimp only
  rw [shapeCast_self, column_apply]
  refine (Ideal.multiReduction_maximumf_single (s := S32x32768) (t := S32) (a := 1) (block x b) 0xFF800000#32
    reduces_S32x32768_S32 (.inl rfl) rfl (flat i)).trans ?_
  rw [Noise.bot_bits]
  congr 1

/-- Outside the array a logit is minus infinity. -/
theorem logit_out (r c : ℕ) (h : 1000000 ≤ c) : logit x r c = ⊥ := by
  unfold logit
  rw [dif_neg (by omega)]
  exact Noise.bot_bits

include hx in
/-- A block's maximum is finite. -/
theorem maxOf_real (b : ℕ) (hb : b < 31) : ∃ M : ℝ, maxOf x b i = (M : EReal) := by
  obtain ⟨h1, h2⟩ := max_spec (Finset.univ : Finset (Fin 32768)) (fun k => logit x (i 0).val (32768 * b + k.val))
  rw [← maxOf_apply] at h1 h2
  have h0 := h1 ⟨0, by decide⟩ (Finset.mem_univ _)
  dsimp only at h0
  rw [hx _ (by omega)] at h0
  have hlt : ⊥ < maxOf x b i := (EReal.bot_lt_coe _).trans_le h0
  obtain ⟨k, -, hk⟩ := h2 hlt
  by_cases hc : 32768 * b + k.val < 1000000
  · exact ⟨_, hk.symm.trans (hx _ hc)⟩
  · rw [← hk, logit_out x _ _ (by omega)] at hlt
    exact absurd hlt (lt_irrefl _)

/-- The scores of a block whose share of the maximum is `μ`. -/
def shown (μ : ℝ) (c : ℕ) : EReal := if c < 1000000 then ((score X τ (i 0).val c - μ : ℝ) : EReal) else ⊥

include hx hT hτ hO in
/-- A chunk's scores. -/
theorem scores_apply (v24 : FVec Ideal S32x1 .f32) (μ : ℝ) (h24 : v24 i = (μ : EReal)) (w : ℕ) (y : FVec Ideal S32x2048 .f32)
    (k : Fin 2048) (hy : y (spot i k) = logit x (i 0).val (w + k.val)) :
    scores (k0_pay5 T) (k0_pay6 T) v24 O (BitVec.ofNat 32 w) y (spot i k) = shown i X τ μ (w + k.val) := by
  have hcount : addi (cols (BitVec.ofNat 32 w)) (along O) (spot i k) = BitVec.ofNat 32 (1000000 * (i 0).val + (w + k.val)) + 42#32 := by
    have h1 : addi (cols (BitVec.ofNat 32 w)) (along O) (spot i k)
        = (iota .tc S32x2048 32 [1] iota_S32x2048_d1_w32 (spot i k) + BitVec.ofNat 32 w) + along O (spot i k) := rfl
    rw [h1, iota_single_apply, along_apply, hO, show ((spot i k) 1).val = k.val from rfl, ← BitVec.ofNat_add, ← BitVec.add_assoc,
      ← BitVec.ofNat_add]
    congr 2
    omega
  have hn := Noise.kernel_noise _ (spot i k) (i 0).val (w + k.val) hcount
  have a1 : ∀ p q : FVec Ideal S32x2048 .f32, addf p q (spot i k) = p (spot i k) + q (spot i k) := fun _ _ => rfl
  have a2 : ∀ p q : FVec Ideal S32x2048 .f32, subf p q (spot i k) = p (spot i k) - q (spot i k) := fun _ _ => rfl
  have a3 : ∀ p q : FVec Ideal S32x2048 .f32, mulf p q (spot i k) = p (spot i k) * q (spot i k) := fun _ _ => rfl
  have a4 : ∀ p q : FVec Ideal S32x2048 .f32, divf p q (spot i k) = Ideal.div (p (spot i k)) (q (spot i k)) := fun _ _ => rfl
  unfold scores
  rw [a1, a2, a3, a4, hn, along_apply, along_apply, along_apply, safe_apply T i τ hT, scale_apply T i τ hT, h24, hy]
  unfold shown score
  by_cases h : w + k.val < 1000000
  · rw [if_pos h, hx _ h, div_real (heat_pos hτ), ← EReal.coe_sub, ← EReal.coe_mul, ← EReal.coe_add]
    congr 1
    ring
  · rw [if_neg h, logit_out x _ _ (by omega), div_bot (heat_pos hτ), ← EReal.coe_mul, EReal.bot_sub, EReal.bot_add]

include hx hT hτ hO in
/-- A block's best score and its column. -/
theorem block_best (b : ℕ) (hb : b < 31) (M : ℝ) (hM : maxOf x b i = (M : EReal)) :
    ∃ k, 32768 * b ≤ k ∧ k < 32768 * (b + 1) ∧ k < 1000000 ∧ (bestOf x T O b).2 i = BitVec.ofNat 32 k
      ∧ (bestOf x T O b).1 i = ((score X τ (i 0).val k - M / heat τ : ℝ) : EReal)
      ∧ (∀ c, 32768 * b ≤ c → c < 32768 * (b + 1) → c < 1000000 → score X τ (i 0).val c ≤ score X τ (i 0).val k)
      ∧ ∀ c, 32768 * b ≤ c → c < k → score X τ (i 0).val c < score X τ (i 0).val k := by
  have h24 : k0_pay7 (F := Ideal) T (maxOf x b) i = ((M / heat τ : ℝ) : EReal) := by
    have e : k0_pay7 (F := Ideal) T (maxOf x b) i = Ideal.div (maxOf x b i) (k0_pay5 (F := Ideal) T i) := rfl
    rw [e, hM, safe_apply T i τ hT, div_real (heat_pos hτ)]
  have h := sampled_best (shown i X τ (M / heat τ)) (k0_pay5 T) (k0_pay6 T) (k0_pay7 T (maxOf x b)) O
    (fun n => piece (block x b) n) i (32768 * b) 16 (by omega) (fun n hn k =>
      scores_apply x T O i X τ hx hT hτ hO _ _ h24 _ _ k (by
        show logit x (i 0).val (32768 * b + (2048 * (n % 16) + k.val)) = _
        rw [Nat.mod_eq_of_lt hn, Nat.add_assoc])) 16 le_rfl
  change Best _ _ _ ((bestOf x T O b).1 i) ((bestOf x T O b).2 i) at h
  obtain ⟨h1, h2⟩ := h
  have hs : ∀ c, c < 1000000 → shown i X τ (M / heat τ) c = ((score X τ (i 0).val c - M / heat τ : ℝ) : EReal) :=
    fun c hc => if_pos hc
  have h0 := h1 (32768 * b) le_rfl (by omega)
  rw [hs _ (by omega)] at h0
  have hlt := (EReal.bot_lt_coe _).trans_le h0
  obtain ⟨k, k1, k2, k3, k4, k5⟩ := h2 hlt
  have hk : k < 1000000 := by
    by_contra hk
    rw [← k4] at hlt
    unfold shown at hlt
    rw [if_neg hk] at hlt
    exact lt_irrefl _ hlt
  rw [hs k hk] at k4
  refine ⟨k, k1, by omega, hk, k3, k4.symm, fun c c1 c2 c3 => ?_, fun c c1 c2 => ?_⟩
  · have := h1 c c1 (by omega)
    rw [hs c c3, ← k4, EReal.coe_le_coe_iff] at this
    linarith
  · have := k5 c c1 c2
    rw [hs c (by omega), ← k4, EReal.coe_lt_coe_iff] at this
    linarith

/-- The place of block `b` on row `i` in a stack. -/
def layer (i : S32x1.Idx) (b : Fin 31) : S31x32x1.Idx := fun a =>
  match a with
  | ⟨0, _⟩ => ⟨b.val, b.isLt⟩
  | ⟨1, _⟩ => ⟨(i 0).val, (i 0).isLt⟩
  | ⟨2, _⟩ => ⟨(i 1).val, (i 1).isLt⟩

/-- A column of numbers through a stack. -/
abbrev over {α : Type} (v : S32x1.Idx → α) : S31x32x1.Idx → α :=
  broadcastTo S31x32x1 (shapeCast S1x32x1 v shapeCasts_S32x1_S1x32x1) broadcasts_S1x32x1_S31x32x1

/-- A column through a stack, read in a layer. -/
theorem over_apply {α : Type} (v : S32x1.Idx → α) (b : Fin 31) : over v (layer i b) = v i := by
  have h1 : (i 1).val < 1 := (i 1).isLt
  refine (shapeCast_apply v shapeCasts_S32x1_S1x32x1 _ i ?_)
  rw [Shape.rowMajor_val_two, Shape.rowMajor_val_three]
  show (i 0).val * 1 + (i 1).val = (0 * 32 + (i 0).val) * 1 + 0
  omega

/-- Each row's greatest number in a stack, -/
def high (y : FVec Ideal S31x32x1 .f32) : FVec Ideal S32x1 .f32 :=
  multiReduction .maximumf [0] S32x1 y 0xFF800000#32 reduces_S31x32x1_S32x1 (.inl rfl) rfl

/-- It is the maximum over the layers; -/
theorem high_apply (y : FVec Ideal S31x32x1 .f32) :
    high y i = (Finset.univ : Finset (Fin 31)).fold max ⊥ (fun b => y (layer i b)) := by
  unfold high
  refine (Ideal.multiReduction_maximumf_single (s := S31x32x1) (t := S32x1) (a := 0) y 0xFF800000#32
    reduces_S31x32x1_S32x1 (.inl rfl) rfl i).trans ?_
  rw [Noise.bot_bits]
  congr 1
  funext k
  refine congrArg y (funext fun a => Fin.ext ?_)
  fin_cases a <;> rfl

/-- and each row's least word. -/
def low (y : IVec S31x32x1 32) : IVec S32x1 32 :=
  multiReductionI .minsi [0] S32x1 y 2147483647#32 reduces_S31x32x1_S32x1 rfl

/-- it is the least over the layers. -/
theorem low_apply (y : IVec S31x32x1 32) :
    low y i = (Finset.univ : Finset (Fin 31)).fold IntOp.minsi never (fun b => y (layer i b)) := by
  unfold low
  refine (multiReductionI_eq_fold (s := S31x32x1) (t := S32x1) (axes := [0]) .minsi _ 2147483647#32 reduces_S31x32x1_S32x1
    rfl i).trans ?_
  refine (Shape.Reduces.fold_filter_drop_single (a := 0) (s := S31x32x1) (t := S32x1) reduces_S31x32x1_S32x1 IntOp.minsi never _ i).trans ?_
  congr 1
  funext k
  refine congrArg y (funext fun a => Fin.ext ?_)
  fin_cases a <;> rfl

/-- The blocks' numbers. -/
abbrev numbers : IVec S31x32x1 32 := iota .tc S31x32x1 32 [0] iota_S31x32x1_d0_w32

/-- The blocks' shares of the maximum, from their maxima `A`; -/
def shares (A : FVec Ideal S31x32x1 .f32) : FVec Ideal S31x32x1 .f32 := divf A (over (k0_pay5 T))

/-- their best scores `B` on one scale; -/
def level (A B : FVec Ideal S31x32x1 .f32) : FVec Ideal S31x32x1 .f32 := addf B (subf (shares T A) (over (high (shares T A))))

/-- the first block with the best. -/
def winner (s : FVec Ideal S31x32x1 .f32) : IVec S32x1 32 :=
  low (select (cmpf .oeq s (over (high s))) numbers (broadcast S31x32x1 never))

/-- The merge of the blocks, in these words. -/
theorem merge_eq (A B : FVec Ideal S31x32x1 .f32) (C : IVec S31x32x1 32) :
    k0_pay14 (F := Ideal) T A B C
      = low (select (cmpi .eq numbers (over (winner (level T A B)))) C (broadcast S31x32x1 never)) := rfl

/-- The merge on a row, the blocks' best scores on one scale being `f`. -/
theorem merge_apply (f : ℕ → EReal) (A B : FVec Ideal S31x32x1 .f32) (C : IVec S31x32x1 32)
    (hf : ∀ b : Fin 31, level T A B (layer i b) = f b.val) (h0 : ⊥ < f 0) :
    ∃ b : Fin 31, k0_pay14 (F := Ideal) T A B C i = C (layer i b) ∧ (∀ a : Fin 31, f a.val ≤ f b.val) ∧ ∀ a : Fin 31, a < b → f a.val < f b.val := by
  have hn : ∀ b : Fin 31, numbers (layer i b) = BitVec.ofNat 32 b.val := fun b =>
    iota_single_apply .tc S31x32x1 32 0 iota_S31x32x1_d0_w32 (layer i b)
  have hb : Best f 0 (0 + 31) (high (level T A B) i) (winner (level T A B) i) := by
    unfold winner
    rw [low_apply]
    refine Best.of_fold f 0 (by decide) (fun b => level T A B (layer i b)) _ (fun b => (hf b).trans (by rw [Nat.zero_add])) _
      (high_apply i _) (fun b hb => ?_) (fun b hb => ?_)
    · rw [select_eq, over_apply, if_pos hb, hn, Nat.zero_add]
    · rw [select_eq, over_apply, if_neg hb]; rfl
  obtain ⟨h1, h2⟩ := hb
  obtain ⟨k, -, k2, k3, k4, k5⟩ := h2 (h0.trans_le (h1 0 (by omega) (by omega)))
  refine ⟨⟨k, by omega⟩, ?_, fun a => (h1 a.val (Nat.zero_le _) (by have := a.isLt; omega)).trans k4.symm.le,
    fun a ha => (k5 a.val (Nat.zero_le _) ha).trans_le k4.symm.le⟩
  rw [merge_eq, low_apply]
  have hs : ∀ b : Fin 31, select (cmpi .eq numbers (over (winner (level T A B)))) C (broadcast S31x32x1 never) (layer i b)
      = if b.val = k then C (layer i b) else never := fun b => by
    rw [select_ieq, over_apply, hn, k3]
    have hbl := b.isLt
    by_cases h : b.val = k
    · rw [if_pos h, h, if_pos rfl]
    · rw [if_neg h, if_neg]
      · rfl
      · intro e
        have := congrArg BitVec.toNat e
        rw [BitVec.toNat_ofNat, BitVec.toNat_ofNat, Nat.mod_eq_of_lt (by omega), Nat.mod_eq_of_lt (by omega)] at this
        exact h this
  refine min_eq _ _ _ (fun b _ => ?_) ⟨⟨k, by omega⟩, Finset.mem_univ _, ?_⟩
  · rw [hs]
    by_cases h : b.val = k
    · rw [if_pos h]
      exact .inr (congrArg (fun b => C (layer i b)) (Fin.ext h))
    · rw [if_neg h]
      exact .inl rfl
  · rw [hs, if_pos rfl]

include hx hT hτ hO in
/-- The kernel's answer on a row is the first column at which the perturbed score is greatest. -/
theorem answer_first : ∃ k < 1000000, answer x T O i = BitVec.ofNat 32 k
    ∧ (∀ c < 1000000, score X τ (i 0).val c ≤ score X τ (i 0).val k)
    ∧ ∀ c < k, score X τ (i 0).val c < score X τ (i 0).val k := by
  choose M hM using fun b : Fin 31 => maxOf_real x i X hx b.val b.isLt
  choose K K1 K2 K3 K4 K5 K6 K7 using fun b : Fin 31 => block_best x T O i X τ hx hT hτ hO b.val b.isLt (M b) (hM b)
  have hrow : ∀ b : Fin 31, row (layer i b) = i := fun b => Shape.idx_ext₂ rfl rfl
  have hA : ∀ b : Fin 31, shares T (stack (maxOf x)) (layer i b) = ((M b / heat τ : ℝ) : EReal) := fun b => by
    have e : shares T (stack (maxOf x)) (layer i b) = Ideal.div (maxOf x b.val (row (layer i b))) (over (k0_pay5 (F := Ideal) T) (layer i b)) := rfl
    rw [e, over_apply, hrow, hM, safe_apply T i τ hT, div_real (heat_pos hτ)]
  have hG : ∃ G : ℝ, high (shares T (stack (maxOf x))) i = (G : EReal) := by
    obtain ⟨h1, h2⟩ := max_spec (Finset.univ : Finset (Fin 31)) (fun b => shares T (stack (maxOf x)) (layer i b))
    rw [← high_apply] at h1 h2
    have h0 := h1 0 (Finset.mem_univ _)
    rw [hA] at h0
    obtain ⟨b, -, hb⟩ := h2 ((EReal.bot_lt_coe _).trans_le h0)
    exact ⟨_, hb.symm.trans (hA b)⟩
  obtain ⟨G, hG⟩ := hG
  have hL : ∀ b : Fin 31, level T (stack (maxOf x)) (stack fun b => (bestOf x T O b).1) (layer i b)
      = ((score X τ (i 0).val (K b) - G : ℝ) : EReal) := fun b => by
    have e : ∀ p q w : FVec Ideal S31x32x1 .f32, addf p (subf q w) (layer i b) = p (layer i b) + (q (layer i b) - w (layer i b)) :=
      fun _ _ _ => rfl
    have e1 : stack (fun b => (bestOf x T O b).1) (layer i b) = ((score X τ (i 0).val (K b) - M b / heat τ : ℝ) : EReal) :=
      (congrArg (bestOf x T O b.val).1 (hrow b)).trans (K5 b)
    have e2 : over (high (shares T (stack (maxOf x)))) (layer i b) = (G : EReal) := (over_apply i _ b).trans hG
    refine (e _ _ _).trans ?_
    rw [e1, e2, hA, ← EReal.coe_sub, ← EReal.coe_add]
    exact congrArg (fun z : ℝ => (z : EReal)) (by ring)
  obtain ⟨f, hf⟩ : ∃ f : ℕ → EReal, ∀ b : Fin 31, f b.val = ((score X τ (i 0).val (K b) - G : ℝ) : EReal) :=
    ⟨fun n => if h : n < 31 then ((score X τ (i 0).val (K ⟨n, h⟩) - G : ℝ) : EReal) else ⊥, fun b => dif_pos b.isLt⟩
  obtain ⟨b, hb, hmax, hfirst⟩ := merge_apply T i f (stack (maxOf x))
    (stack fun b => (bestOf x T O b).1) (stack fun b => (bestOf x T O b).2)
    (fun b => (hL b).trans (hf b).symm) (by rw [show (0 : ℕ) = (0 : Fin 31).val from rfl, hf]; exact EReal.bot_lt_coe _)
  have hle : ∀ a : Fin 31, score X τ (i 0).val (K a) ≤ score X τ (i 0).val (K b) := fun a => by
    have := hmax a
    rw [hf, hf, EReal.coe_le_coe_iff] at this
    linarith
  have hlt : ∀ a : Fin 31, a < b → score X τ (i 0).val (K a) < score X τ (i 0).val (K b) := fun a ha => by
    have := hfirst a ha
    rw [hf, hf, EReal.coe_lt_coe_iff] at this
    linarith
  have hcol : ∀ c < 1000000, ∃ a : Fin 31, 32768 * a.val ≤ c ∧ c < 32768 * (a.val + 1) := fun c hc =>
    ⟨⟨c / 32768, by omega⟩, by dsimp only; omega, by dsimp only; omega⟩
  refine ⟨K b, K3 b, ?_, fun c hc => ?_, fun c hc => ?_⟩
  · show k0_pay14 (F := Ideal) T _ _ _ i = _
    rw [hb]
    show (bestOf x T O b.val).2 (row (layer i b)) = _
    rw [hrow, K4]
  · obtain ⟨a, a1, a2⟩ := hcol c hc
    exact (K6 a c a1 a2 hc).trans (hle a)
  · have hk := K3 b
    obtain ⟨a, a1, a2⟩ := hcol c (by omega)
    have hab : a.val ≤ b.val := by
      have := K2 b
      omega
    rcases Nat.lt_or_ge a.val b.val with h | h
    · exact (K6 a c a1 a2 (by omega)).trans_lt (hlt a h)
    · obtain rfl : a = b := Fin.ext (by omega)
      exact K7 a c a1 hc

end Row

end Cert.KernelIdeal.Value

end
-- ==== Proof.RefValue.lean ====
module

public import proofs.«01_k».proof.Proof.Peak
public import proofs.«01_k».proof.Proof.Answer

/-!
# The reference's result over the reals

On a row of finite logits: at temperature zero the reference's result is the first column at which the logits are
greatest (`result_cold`), and at a positive temperature it is the column whose perturbed score wins by a margin
(`result_warm`).
-/

@[expose] public section

set_option maxRecDepth 65536

noncomputable section

namespace Cert.ReferenceIdeal.Line

open Cert.ReferenceIdeal Cert.ReferenceIdeal.Gen
open Cert.KernelIdeal.Value (heat heat_pos div_real)
open Idealize.ShloMosaic Idealize.ShloMosaic.TcCoe
open Idealize.ShloMosaic.View

local notation "𝕏" => FVec Ideal S32x1000000 FTy.f32
local notation "𝕋" => FVec Ideal S32 FTy.f32

/-- A number for each row, read in the row. -/
theorem wide_apply (v : 𝕋) (j : S32.Idx) (k : Fin 1000000) : wide v (cell j k) = v j := by
  unfold wide
  refine (broadcastInDim_apply _ _ _ _ (fun a => match a with | ⟨0, _⟩ => ⟨(j 0).val, (j 0).isLt⟩ | ⟨1, _⟩ => ⟨0, Nat.one_pos⟩ : S32x1.Idx) ?_).trans ?_
  · intro a
    match a with
    | ⟨0, _⟩ => rfl
    | ⟨1, _⟩ => rfl
  · refine broadcastInDim_apply _ _ _ _ j ?_
    intro a
    match a with
    | ⟨0, _⟩ => rfl

/-- A sum, at a place. -/
theorem add_apply (u v : 𝕏) (n : S32x1000000.Idx) : addf u v n = (u n + v n : EReal) := rfl

/-- The rows at temperature zero. -/
theorem cold_apply (t : 𝕋) (j : S32.Idx) (τ : ℝ) (ht : t j = (τ : EReal)) : cold t j = BitVec.ofBool (decide (τ = 0)) := by
  show FloatOps.cmpf (F := Ideal) .oeq (t j) (FloatOps.ofBits (F := Ideal) .f32 0x00000000#32) = _
  rw [Ideal.cmpf_def, Noise.zero_bits, ht]
  unfold Ideal.cmp
  dsimp only
  congr 1
  rw [decide_eq_decide]
  exact EReal.coe_eq_zero

/-- Choosing by a word that says whether something holds. -/
theorem select_ofBool {α : Type} (p : Prop) [Decidable p] (a b : α) : Scalar.select (BitVec.ofBool (decide p)) a b = if p then a else b := by
  unfold Scalar.select
  by_cases h : p <;> simp [h]

/-- The temperature a row is divided by. -/
theorem safe_apply (t : 𝕋) (j : S32.Idx) (τ : ℝ) (ht : t j = (τ : EReal)) : safe t j = (heat τ : EReal) := by
  show Scalar.select (cold t j) (FloatOps.ofBits (F := Ideal) .f32 0x3F800000#32) (t j) = _
  rw [cold_apply t j τ ht, select_ofBool, Noise.one_bits, ht]
  unfold heat
  split <;> rfl

section Row

variable (x : 𝕏) (t : 𝕋) (j : S32.Idx) (X : Fin 1000000 → ℝ) (τ : ℝ) (hx : ∀ k, x (cell j k) = (X k : EReal))
  (ht : t j = (τ : EReal)) (hτ : 0 ≤ τ)

include hx ht hτ in
/-- The scaled logits of a row. -/
theorem heated_apply (k : Fin 1000000) : heated x t (cell j k) = ((X k / heat τ : ℝ) : EReal) := by
  show Ideal.div (x (cell j k)) (wide (safe t) (cell j k)) = _
  rw [wide_apply, safe_apply t j τ ht, hx, div_real (heat_pos hτ)]

/-- The noise of a row. -/
theorem noise_apply (k : Fin 1000000) :
    noise (cell j k) = ((Margin.noise (Margin.scaled (Noise.draw (j 0).val k.val)) : ℝ) : EReal) :=
  Noise.reference_noise (cell j k)

end Row

/-- A row's number, at least minus infinity. -/
theorem shift_apply (v : 𝕋) (j : S32.Idx) : maximumf (rows 0xFF800000#32) v j = v j := by
  have e : rows 0xFF800000#32 j = (⊥ : EReal) := Noise.bot_bits
  have e' : ∀ u : 𝕋, maximumf u v j = max (u j) (v j) := fun _ => rfl
  rw [e', e]
  exact max_eq_right bot_le

/-- An exponential less the row's number. -/
theorem power_apply (y : 𝕏) (v : 𝕋) (j : S32.Idx) (k : Fin 1000000) (a m : ℝ) (hy : y (cell j k) = (a : EReal)) (hv : v j = (m : EReal)) :
    Host.exp (subf y (wide v)) (cell j k) = ((Real.exp (a - m) : ℝ) : EReal) := by
  have e : ∀ u : 𝕏, Host.exp (subf y u) (cell j k) = Ideal.exp (y (cell j k) - u (cell j k)) := fun _ => rfl
  rw [e, wide_apply, hy, hv, ← EReal.coe_sub, Ideal.exp_coe]

/-- The exponentials of a row, less a shift. -/
theorem powers_apply (y : 𝕏) (j : S32.Idx) (s : Fin 1000000 → ℝ) (hy : ∀ k, y (cell j k) = (s k : EReal)) :
    ∃ m : ℝ, ∀ k, powers y (cell j k) = ((Real.exp (s k - m) : ℝ) : EReal) := by
  obtain ⟨n, hn, -⟩ := rowMax_apply y j s hy
  refine ⟨s n, fun k => ?_⟩
  unfold powers
  exact power_apply y _ j k (s k) (s n) (hy k) ((shift_apply _ j).trans hn)

/-- The logarithm of a quotient by the row's number, plus a number. -/
theorem log_apply (q : 𝕏) (v : 𝕋) (j : S32.Idx) (k : Fin 1000000) (a z ε : ℝ) (hq : q (cell j k) = (a : EReal)) (hv : v j = (z : EReal))
    (hε : FloatOps.ofBits (F := Ideal) .f32 0x1E3CE508#32 = (ε : EReal)) (hz : 0 < z) (hpos : 0 < a / z + ε) :
    Host.log (addf (Host.divf q (wide v)) (places 0x1E3CE508#32)) (cell j k) = ((Real.log (a / z + ε) : ℝ) : EReal) := by
  have e : ∀ u p : 𝕏, Host.log (addf (Host.divf q u) p) (cell j k) = Ideal.log (Ideal.div (q (cell j k)) (u (cell j k)) + p (cell j k)) :=
    fun _ _ => rfl
  have e' : places 0x1E3CE508#32 (cell j k) = (ε : EReal) := hε
  rw [e, e', wide_apply, hq, hv, div_real hz, ← EReal.coe_add, Ideal.log_coe, if_neg hpos.not_ge]

/-- The logarithms of a row's softmax, plus a tiny number. -/
theorem logits_apply (y : 𝕏) (j : S32.Idx) (s : Fin 1000000 → ℝ) (hy : ∀ k, y (cell j k) = (s k : EReal)) :
    ∃ m ε : ℝ, 0 ≤ ε ∧ ε ≤ 2 / 10 ^ 20 ∧ ∀ k, logits y (cell j k)
      = ((Real.log (Real.exp (s k - m) / (∑ i, Real.exp (s i - m)) + ε) : ℝ) : EReal) := by
  obtain ⟨m, hm⟩ := powers_apply y j s hy
  obtain ⟨ε, h0, h1, -, hε⟩ := Noise.speck_bits
  have hZ : 0 < ∑ i, Real.exp (s i - m) := Finset.sum_pos (fun i _ => Real.exp_pos _) ⟨0, Finset.mem_univ _⟩
  refine ⟨m, ε, h0, h1, fun k => ?_⟩
  unfold logits
  exact log_apply _ _ j k _ _ ε (hm k) (rowSum_apply _ j _ hm) hε hZ (add_pos_of_pos_of_nonneg (div_pos (Real.exp_pos _) hZ) h0)

section Row

variable (x : 𝕏) (t : 𝕋) (j : S32.Idx) (X : Fin 1000000 → ℝ) (τ : ℝ) (hx : ∀ k, x (cell j k) = (X k : EReal))
  (ht : t j = (τ : EReal)) (hτ : 0 ≤ τ)

/-- The result chooses between the two arg-maxima by the temperature. -/
theorem result_apply : result x t j = Scalar.select (cold t j) (Cert.Pre_finite_with_clear_winners.fn_argmax (F := Ideal) x j)
    (Cert.Pre_finite_with_clear_winners.fn_argmax (F := Ideal) (addf noise (logits (heated x t))) j) := by
  unfold result
  rfl

include hx ht in
/-- At temperature zero the result is the first column at which the logits are greatest. -/
theorem result_cold (h : τ = 0) : ∃ k : Fin 1000000, result x t j = BitVec.ofNat 32 k.val
    ∧ (∀ l, X l ≤ X k) ∧ ∀ l, l < k → X l < X k := by
  obtain ⟨k, hk, h1, h2⟩ := argmax_first x j fun l => by rw [hx]; exact EReal.bot_lt_coe _
  refine ⟨k, ?_, fun l => ?_, fun l hl => ?_⟩
  · rw [result_apply, cold_apply t j τ ht, select_ofBool, if_pos h, hk]
  · have := h1 l
    rw [hx, hx] at this
    exact_mod_cast this
  · have := h2 l hl
    rw [hx, hx] at this
    exact_mod_cast this

include hx ht hτ in
/-- At a positive temperature the result is the column whose perturbed score wins by the margin. -/
theorem result_warm (h : τ ≠ 0) (k : Fin 1000000)
    (hk : ∀ l, l ≠ k → X l / heat τ + Margin.noise (Margin.scaled (Noise.draw (j 0).val l.val)) + 9 / 10000
      ≤ X k / heat τ + Margin.noise (Margin.scaled (Noise.draw (j 0).val k.val))) :
    result x t j = BitVec.ofNat 32 k.val := by
  obtain ⟨m, ε, h0, h1, hl⟩ := logits_apply (heated x t) j _ (heated_apply x t j X τ hx ht hτ)
  have hs : ∀ l, addf noise (logits (heated x t)) (cell j l)
      = ((Real.log (Real.exp (X l / heat τ - m) / (∑ i, Real.exp (X i / heat τ - m)) + ε)
          + Margin.noise (Margin.scaled (Noise.draw (j 0).val l.val)) : ℝ) : EReal) := fun l => by
    rw [add_apply, noise_apply, hl, add_comm, EReal.coe_add]
  obtain ⟨n, hn, hmax, -⟩ := argmax_first (addf noise (logits (heated x t))) j fun l => by
    rw [hs]
    exact EReal.bot_lt_coe _
  rw [result_apply, cold_apply t j τ ht, select_ofBool, if_neg h, hn]
  by_contra hne
  have hnk : n ≠ k := fun e => hne (by rw [e])
  have hw := Margin.winner_of_probs (fun l : Fin 1000000 => X l / heat τ) (fun l => Noise.draw (j 0).val l.val)
    (fun l => Noise.draw_lt _ _) k hk (by rw [Fintype.card_fin]; norm_num) m ε h0 h1 n hnk
  have hle := hmax k
  rw [hs, hs, EReal.coe_le_coe_iff] at hle
  exact absurd hle hw.not_ge

end Row

end Cert.ReferenceIdeal.Line

end
-- ==== Proof.PreValue.lean ====
module

public import proofs.«01_k».proof.Proof.RefValue

/-!
# What the precondition says, over the reals

The precondition's four answers all being one says: the logits are finite, the temperatures are finite and not negative,
and in each row whose temperature is not zero one column's perturbed score wins by a margin (`precondition`).
-/

@[expose] public section

set_option maxRecDepth 65536

noncomputable section

namespace Cert.ReferenceIdeal.Line

open Cert.ReferenceIdeal Cert.ReferenceIdeal.Gen
open Cert.KernelIdeal.Value (heat heat_pos div_real)
open Idealize.ShloMosaic Idealize.ShloMosaic.TcCoe
open Idealize.ShloMosaic.View

local notation "𝕏" => FVec Ideal S32x1000000 FTy.f32
local notation "𝕋" => FVec Ideal S32 FTy.f32

/-- The perturbed scores the precondition looks at. -/
def perturbed (x : 𝕏) (t : 𝕋) : 𝕏 := addf (heated x t) noise

/-- The precondition, from its perturbed scores on. -/
theorem fn_eq (x : 𝕏) (t : 𝕋) : Cert.Pre_finite_with_clear_winners.fn (F := Ideal) x t
    = Cert.Pre_finite_with_clear_winners.fn_part1 (F := Ideal) x t (perturbed x t) (rowMax (perturbed x t))
        (Cert.Pre_finite_with_clear_winners.fn_argmax (F := Ideal) (perturbed x t)) := rfl

/-- Its rows' words along the columns. -/
def spread {w : ℕ} (v : IVec S32 w) : IVec S32x1000000 w :=
  broadcastInDim S32x1000000 ![0, 1] Cert.Pre_finite_with_clear_winners.facts.bcast_S32x1_S32x1000000_0_1
    (broadcastInDim S32x1 ![0] Cert.Pre_finite_with_clear_winners.facts.bcast_S32_S32x1_0 v)

/-- The columns' numbers. -/
def numbers : IVec S32x1000000 32 :=
  broadcastInDim S32x1000000 ![0, 1] Cert.Pre_finite_with_clear_winners.facts.bcast_S1x1000000_S32x1000000_0_1
    (broadcastInDim Cert.Pre_finite_with_clear_winners.S1x1000000 ![1]
      Cert.Pre_finite_with_clear_winners.facts.bcast_S1000000_S1x1000000_1
      (iotaInDim Cert.Pre_finite_with_clear_winners.S1000000 32 0))

variable (x : 𝕏) (t : 𝕋) (p : 𝕏) (b : 𝕋) (w : IVec S32 32)

/-- Its first answer: where the logits are finite; -/
theorem finite_eq : (Cert.Pre_finite_with_clear_winners.fn_part1 (F := Ideal) x t p b w).1
    = cmpf .olt (Host.absf x) (places 0x7F800000#32) := rfl

/-- its second: where the temperatures are not negative; -/
theorem nonneg_eq : (Cert.Pre_finite_with_clear_winners.fn_part1 (F := Ideal) x t p b w).2.1 = cmpf .oge t (rows 0x00000000#32) := rfl

/-- its third: where they are finite; -/
theorem bounded_eq : (Cert.Pre_finite_with_clear_winners.fn_part1 (F := Ideal) x t p b w).2.2.1 = cmpf .olt t (rows 0x7F800000#32) := rfl

/-- its fourth: where the row is at temperature zero, or the column is the winner, or the score is below the best by the
margin. -/
theorem clear_eq : (Cert.Pre_finite_with_clear_winners.fn_part1 (F := Ideal) x t p b w).2.2.2
    = ori (ori (spread (cold t)) (cmpi .eq numbers (spread w))) (cmpf .ole (addf p (places 0x3A83126F#32)) (wide b)) := rfl

/-- A row's word, read in the row. -/
theorem spread_apply {n : ℕ} (v : IVec S32 n) (j : S32.Idx) (k : Fin 1000000) : spread v (cell j k) = v j := by
  unfold spread
  refine (broadcastInDim_apply _ _ _ _ (fun a => match a with | ⟨0, _⟩ => ⟨(j 0).val, (j 0).isLt⟩ | ⟨1, _⟩ => ⟨0, Nat.one_pos⟩ : S32x1.Idx) ?_).trans ?_
  · intro a
    match a with
    | ⟨0, _⟩ => rfl
    | ⟨1, _⟩ => rfl
  · refine broadcastInDim_apply _ _ _ _ j ?_
    intro a
    match a with
    | ⟨0, _⟩ => rfl

/-- A column's number. -/
theorem numbers_apply (j : S32.Idx) (k : Fin 1000000) : numbers (cell j k) = BitVec.ofNat 32 k.val := by
  unfold numbers
  rfl

/-- A word that says whether something holds is one when it does. -/
theorem ofBool_eq_one {q : Prop} [Decidable q] (h : BitVec.ofBool (decide q) = 1#1) : q := by
  by_contra hn
  rw [decide_eq_false hn] at h
  exact absurd h (by decide)

/-- One of two words of one bit is one when their union is. -/
theorem or_eq_one : ∀ a b : BitVec 1, IntOp.ori a b = 1#1 → a = 1#1 ∨ b = 1#1 := by decide

/-- A number whose magnitude is below infinity is finite. -/
theorem finite_of (a : EReal) (h : BitVec.ofBool (decide (max a (-a) < ⊤)) = 1#1) : ∃ r : ℝ, a = (r : EReal) := by
  have h := ofBool_eq_one h
  induction a with
  | bot => simp at h
  | top => simp at h
  | coe r => exact ⟨r, rfl⟩

/-- The precondition over the reals. -/
theorem precondition (h1 : (Cert.Pre_finite_with_clear_winners.fn (F := Ideal) x t).1 = fun _ => 1#1)
    (h2 : (Cert.Pre_finite_with_clear_winners.fn (F := Ideal) x t).2.1 = fun _ => 1#1)
    (h3 : (Cert.Pre_finite_with_clear_winners.fn (F := Ideal) x t).2.2.1 = fun _ => 1#1)
    (h4 : (Cert.Pre_finite_with_clear_winners.fn (F := Ideal) x t).2.2.2 = fun _ => 1#1) (j : S32.Idx) :
    ∃ (X : Fin 1000000 → ℝ) (τ : ℝ), (∀ k, x (cell j k) = (X k : EReal)) ∧ t j = (τ : EReal) ∧ 0 ≤ τ
      ∧ (τ ≠ 0 → ∃ k : Fin 1000000, ∀ l, l ≠ k →
          X l / heat τ + Margin.noise (Margin.scaled (Noise.draw (j 0).val l.val)) + 9 / 10000
            ≤ X k / heat τ + Margin.noise (Margin.scaled (Noise.draw (j 0).val k.val))) := by
  rw [fn_eq] at h1 h2 h3 h4
  rw [finite_eq] at h1
  rw [nonneg_eq] at h2
  rw [bounded_eq] at h3
  rw [clear_eq] at h4
  have hX : ∀ k, ∃ r : ℝ, x (cell j k) = (r : EReal) := fun k => by
    have h : FloatOps.cmpf (F := Ideal) .olt (max (x (cell j k)) (-(x (cell j k)))) (FloatOps.ofBits (F := Ideal) .f32 0x7F800000#32) = 1#1 :=
      congrFun h1 (cell j k)
    rw [Noise.top_bits] at h
    exact finite_of _ h
  choose X hX using hX
  have hτ0 : (0 : EReal) ≤ t j := by
    have h : FloatOps.cmpf (F := Ideal) .oge (t j) (FloatOps.ofBits (F := Ideal) .f32 0x00000000#32) = 1#1 := congrFun h2 j
    rw [Noise.zero_bits] at h
    exact ofBool_eq_one h
  have hτ1 : t j < (⊤ : EReal) := by
    have h : FloatOps.cmpf (F := Ideal) .olt (t j) (FloatOps.ofBits (F := Ideal) .f32 0x7F800000#32) = 1#1 := congrFun h3 j
    rw [Noise.top_bits] at h
    exact ofBool_eq_one h
  obtain ⟨τ, ht⟩ : ∃ τ : ℝ, t j = (τ : EReal) :=
    ⟨(t j).toReal, (EReal.coe_toReal hτ1.ne (lt_of_lt_of_le EReal.bot_lt_zero hτ0).ne').symm⟩
  have hτ : 0 ≤ τ := by
    rw [ht] at hτ0
    exact_mod_cast hτ0
  refine ⟨X, τ, hX, ht, hτ, fun hne => ?_⟩
  have hs : ∀ k, perturbed x t (cell j k)
      = ((X k / heat τ + Margin.noise (Margin.scaled (Noise.draw (j 0).val k.val)) : ℝ) : EReal) := fun k => by
    unfold perturbed
    rw [add_apply, heated_apply x t j X τ hX ht hτ, noise_apply, EReal.coe_add]
  obtain ⟨k, hk, -, -⟩ := argmax_first (perturbed x t) j fun l => by
    rw [hs]
    exact EReal.bot_lt_coe _
  obtain ⟨n, hn, hmax⟩ := rowMax_apply (perturbed x t) j _ hs
  obtain ⟨δ, hδ, hδe⟩ := Noise.margin_bits
  have hlow : ∀ l, l ≠ k → X l / heat τ + Margin.noise (Margin.scaled (Noise.draw (j 0).val l.val)) + δ
      ≤ X n / heat τ + Margin.noise (Margin.scaled (Noise.draw (j 0).val n.val)) := fun l hl => by
    have h : IntOp.ori (IntOp.ori (spread (cold t) (cell j l))
          (IntOp.cmpi .eq (numbers (cell j l)) (spread (Cert.Pre_finite_with_clear_winners.fn_argmax (F := Ideal) (perturbed x t)) (cell j l))))
        (FloatOps.cmpf (F := Ideal) .ole (perturbed x t (cell j l) + FloatOps.ofBits (F := Ideal) .f32 0x3A83126F#32)
          (wide (rowMax (perturbed x t)) (cell j l))) = 1#1 := congrFun h4 (cell j l)
    rw [spread_apply, spread_apply, numbers_apply, wide_apply, hk, hn, hs, hδe, cold_apply t j τ ht, ← EReal.coe_add] at h
    rcases or_eq_one _ _ h with h | h
    · rcases or_eq_one _ _ h with h | h
      · exact absurd (ofBool_eq_one h) hne
      · exfalso
        have hw : BitVec.ofNat 32 l.val = BitVec.ofNat 32 k.val := by
          by_contra hc
          unfold IntOp.cmpi at h
          dsimp only at h
          rw [beq_eq_false_iff_ne.2 hc] at h
          exact absurd h (by decide)
        have e := congrArg BitVec.toNat hw
        have h1 := l.isLt
        have h2 := k.isLt
        rw [BitVec.toNat_ofNat, BitVec.toNat_ofNat, Nat.mod_eq_of_lt (by omega), Nat.mod_eq_of_lt (by omega)] at e
        exact hl (Fin.ext e)
    · have h := ofBool_eq_one (q := (_ : EReal) ≤ _) h
      exact EReal.coe_le_coe_iff.1 h
  obtain rfl : n = k := by
    by_contra hc
    have := hlow n hc
    linarith
  exact ⟨n, fun l hl => by linarith [hlow l hl]⟩

end Cert.ReferenceIdeal.Line

end
-- ==== Proof.Step.lean ====
module

public import proofs.«01_k».proof.Proof.Value

/-!
# One grid point, in values

What the scratch buffers hold before each grid point (`Inv`), and that the body takes that to what they hold before the
next, leaving the answer in the output's buffer at the last point.
-/

@[expose] public section

set_option maxRecDepth 65536

noncomputable section

namespace Cert.KernelIdeal.Value

open Cert.KernelIdeal Cert.KernelIdeal.Gen Cert.KernelIdeal.Body Cert.KernelIdeal.Chunk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the scratch buffers hold before grid point `t`: the maximum last taken, and the rows of the blocks sampled. -/
structure Inv (x : FVec F S32x1000000 .f32) (T : FVec F S32x1 .f32) (O : IVec S32x1 32) (t : ℕ) (c : Dev nD)
    (f6 : Bf (F := F) c A6) (f7 : Bf (F := F) c A7) (f8 : Bf (F := F) c A8) (f9 : Bf (F := F) c A9) : Prop where
  /-- the maximum last taken; -/
  last : 0 < t → A6.view.read (Elt F) f6 = maxOf x (min (t - 1) 30)
  /-- the maxima, -/
  maxs : ∀ j, (j 0).val + 1 < t → A7.view.read (Elt F) f7 j = stack (maxOf x) j
  /-- the best scores -/
  bests : ∀ j, (j 0).val + 1 < t → A8.view.read (Elt F) f8 j = stack (fun b => (bestOf x T O b).1) j
  /-- and their columns. -/
  places : ∀ j, (j 0).val + 1 < t → A9.view.read (Elt F) f9 j = stack (fun b => (bestOf x T O b).2) j

/-- The row of the stacks that points 1 to 30 store. -/
theorem row_mid : ∀ t : Fin grid0.N, 0 < t.val → t.val < 31 → k0_off1 (grid0.coords t) = ![t.val - 1, 0, 0] := by
  decide +kernel

/-- The first column of the block that a point samples. -/
theorem base_eq : ∀ t : Fin grid0.N, 0 < t.val → base (grid0.coords t) = BitVec.ofNat 32 (32768 * (t.val - 1)) := by
  decide +kernel

/-- A point's coordinate. -/
theorem coord_eq : ∀ t : Fin grid0.N, (grid0.coords t 0).val = t.val := by
  decide +kernel

/-- Storing a row of a stack extends what is known of the stack by that row. -/
theorem extend {α : Type} {t : ℕ} (ht : 0 < t) {g : ℕ → S32x1.Idx → α} {A B : S31x32x1.Idx → α}
    (hA : ∀ j, (j 0).val + 1 < t → A j = stack g j)
    (hB : ∀ j, B j = if (j 0).val = t - 1 then g (t - 1) (row j) else A j) :
    ∀ j, (j 0).val + 1 < t + 1 → B j = stack g j := fun j hj => by
  rw [hB]
  by_cases h : (j 0).val = t - 1
  · rw [if_pos h]
    unfold stack
    rw [h]
  · rw [if_neg h]
    exact hA j (by omega)

variable (x : FVec F S32x1000000 .f32) (T : FVec F S32x1 .f32) (O : IVec S32x1 32)

/-- The best score that points 1 to 30 store. -/
theorem sampledMid_eq (c : Dev nD) (t : Fin grid0.N) (ht : 0 < t.val) (ht' : t.val < 31)
    (M1 : Memref sig .tc .vmem S32x1 .f32) (M2 : Memref sig .tc .vmem S32x1 .i32) (M4 : Memref sig .tc .vmem S32x32768 .f32)
    (f1 : Bf (F := F) c M1) (f2 : Bf (F := F) c M2) (f4 : Bf (F := F) c M4) (f6 : Bf (F := F) c A6)
    (h1 : M1.view.read (Elt F) f1 = T) (h2 : M2.view.read (Elt F) f2 = O) (h4 : Holds x (t.val - 1) (M4.view.read (Elt F) f4))
    (h6 : A6.view.read (Elt F) f6 = maxOf x (t.val - 1)) :
    sampledMid c (grid0.coords t) M1 M2 M4 f1 f2 f4 f6 = bestOf x T O (t.val - 1) := by
  unfold sampledMid bestOf
  rw [read1_eq, read1_eq, read1_eq, h1, h2, h6, base_eq t ht]
  refine sampled_congr _ _ _ _ _ _ _ 16 fun n hn => ?_
  rw [chunk_eq, h4.eq (by omega)]

/-- The best score that point 31 stores. -/
theorem sampledLast_eq (c : Dev nD) (t : Fin grid0.N) (ht : t.val = 31)
    (M1 : Memref sig .tc .vmem S32x1 .f32) (M2 : Memref sig .tc .vmem S32x1 .i32) (M4 : Memref sig .tc .vmem S32x32768 .f32)
    (f1 : Bf (F := F) c M1) (f2 : Bf (F := F) c M2) (f4 : Bf (F := F) c M4) (f6 : Bf (F := F) c A6)
    (h1 : M1.view.read (Elt F) f1 = T) (h2 : M2.view.read (Elt F) f2 = O) (h4 : Holds x 30 (M4.view.read (Elt F) f4))
    (h6 : A6.view.read (Elt F) f6 = maxOf x 30) :
    sampledLast c (grid0.coords t) M1 M2 M4 f1 f2 f4 f6 = bestOf x T O 30 := by
  unfold sampledLast bestOf
  rw [read1_eq, read1_eq, read1_eq, h1, h2, h6, base_eq t (by omega), ht]
  refine sampled_congr _ _ _ _ _ _ _ 16 fun n hn => ?_
  rw [chunk_eq]
  exact tail_eq h4 n hn

/-- The body at a grid point, from what the scratch buffers hold before it and the staging buffers at their blocks. -/
theorem run_point (c : Dev nD) (t : Fin grid0.N)
    (M1 : Memref sig .tc .vmem S32x1 .f32) (h1 : M1.IsWhole) (M2 : Memref sig .tc .vmem S32x1 .i32) (h2 : M2.IsWhole)
    (M3 : Memref sig .tc .vmem S32x32768 .f32) (h3 : M3.IsWhole) (M4 : Memref sig .tc .vmem S32x32768 .f32)
    (h4 : M4.IsWhole) (M5 : Memref sig .tc .vmem S32x1 .i32) (h5 : M5.IsWhole)
    (f1 : Bf (F := F) c M1) (f2 : Bf (F := F) c M2) (f3 : Bf (F := F) c M3) (f4 : Bf (F := F) c M4)
    (f5 : Bf (F := F) c M5) (f6 : Bf (F := F) c A6) (f7 : Bf (F := F) c A7) (f8 : Bf (F := F) c A8)
    (f9 : Bf (F := F) c A9)
    (e1 : M1.view.read (Elt F) f1 = T) (e2 : M2.view.read (Elt F) f2 = O)
    (e3 : Holds x (min t.val 30) (M3.view.read (Elt F) f3)) (e4 : Holds x (t.val - 1) (M4.view.read (Elt F) f4))
    (hI : Inv x T O t.val c f6 f7 f8 f9) :
    ∃ W : Bf (F := F) c M5 × Bf (F := F) c A6 × Bf (F := F) c A7 × Bf (F := F) c A8 × Bf (F := F) c A9,
      (Inv x T O (t.val + 1) c W.2.1 W.2.2.1 W.2.2.2.1 W.2.2.2.2 ∧ (t.val ≠ 31 → W.1 = f5)
        ∧ (t.val = 31 → M5.view.read (Elt F) W.1 = answer x T O)) ∧
      ∀ (E : Set ℕ) (Q : PUnit → sProp 𝕄),
        iprop(pt c M1 f1 ∗ pt c M2 f2 ∗ pt c M3 f3 ∗ pt c M4 f4 ∗ pt c M5 f5 ∗ pt c A6 f6 ∗ pt c A7 f7 ∗ pt c A8 f8
          ∗ pt c A9 f9
          ∗ (iprop(pt c M1 f1 ∗ pt c M2 f2 ∗ pt c M3 f3 ∗ pt c M4 f4 ∗ pt c M5 W.1 ∗ pt c A6 W.2.1 ∗ pt c A7 W.2.2.1
            ∗ pt c A8 W.2.2.2.1 ∗ pt c A9 W.2.2.2.2) -∗ Q ⟨⟩))
        ⊢ wp frame (wpE (defs₀ (F := F)) Variants.none c none) E (bodyOn (grid0.coords t) M1 h1 M2 h2 M3 h3 M4 h4 M5 h5) Q := by
  have hN : t.val < 32 := lt_of_lt_of_eq t.isLt N_0
  rcases Nat.eq_zero_or_pos t.val with h | h
  · obtain ⟨a, b, d, e, f, g⟩ := conds_first t h
    refine ⟨_, ?_, (run_first c _ M1 h1 M2 h2 M3 h3 M4 h4 M5 h5 a b d e f g f1 f2 f3 f4 f5 f6 f7 f8 f9).2⟩
    rw [first_eq]
    refine ⟨⟨fun _ => ?_, fun j hj => absurd hj (by omega), fun j hj => absurd hj (by omega),
      fun j hj => absurd hj (by omega)⟩, fun _ => rfl, fun h' => absurd h' (by omega)⟩
    rw [h] at e3
    rw [read1_put1, readBlock_eq, e3.eq (by decide), h]
    rfl
  rcases Nat.lt_or_ge t.val 30 with h' | h'
  · obtain ⟨a, b, d, e, f, g, j, k⟩ := conds_mid t h h'
    refine ⟨_, ?_, (run_mid c _ M1 h1 M2 h2 M3 h3 M4 h4 M5 h5 a b d e f g j k f1 f2 f3 f4 f5 f6 f7 f8 f9).2⟩
    have h6 := hI.last h
    rw [show min (t.val - 1) 30 = t.val - 1 by omega] at h6
    rw [mid_eq, sampledMid_eq x T O c t h (by omega) M1 M2 M4 f1 f2 f4 f6 e1 e2 e4 h6]
    refine ⟨⟨fun _ => ?_, extend h hI.maxs fun j => ?_, extend h hI.bests fun j => ?_, extend h hI.places fun j => ?_⟩,
      fun _ => rfl, fun h' => absurd h' (by omega)⟩
    · rw [show min t.val 30 = t.val by omega] at e3
      rw [read1_put1, readBlock_eq, e3.eq h', show min (t.val + 1 - 1) 30 = t.val by omega]
      rfl
    · rw [read3_putRow c A7 f7 _ _ (row_mid t h (by omega)), read1_eq, h6]
    · rw [read3_putRow c A8 f8 _ _ (row_mid t h (by omega))]
    · rw [read3_putRow c A9 f9 _ _ (row_mid t h (by omega))]
  rcases Nat.lt_or_ge t.val 31 with h'' | h''
  · have ht : t.val = 30 := by omega
    obtain ⟨a, b, d, e, f, g, j, k⟩ := conds_edge t ht
    refine ⟨_, ?_, (run_edge c _ M1 h1 M2 h2 M3 h3 M4 h4 M5 h5 a b d e f g j k f1 f2 f3 f4 f5 f6 f7 f8 f9).2⟩
    have h6 := hI.last h
    rw [show min (t.val - 1) 30 = t.val - 1 by omega] at h6
    rw [edge_eq, sampledMid_eq x T O c t h (by omega) M1 M2 M4 f1 f2 f4 f6 e1 e2 e4 h6]
    refine ⟨⟨fun _ => ?_, extend h hI.maxs fun j => ?_, extend h hI.bests fun j => ?_, extend h hI.places fun j => ?_⟩,
      fun _ => rfl, fun h' => absurd h' (by omega)⟩
    · rw [show min t.val 30 = 30 by omega] at e3
      rw [read1_put1, readBlock_eq, pay13_eq _ ((coord_eq t).trans ht) e3, show min (t.val + 1 - 1) 30 = 30 by omega]
    · rw [read3_putRow c A7 f7 _ _ (row_mid t h (by omega)), read1_eq, h6]
    · rw [read3_putRow c A8 f8 _ _ (row_mid t h (by omega))]
    · rw [read3_putRow c A9 f9 _ _ (row_mid t h (by omega))]
  · have ht : t.val = 31 := by omega
    obtain ⟨a, b, d, e, f, g, j⟩ := conds_last t ht
    refine ⟨_, ?_, (run_last c _ M1 h1 M2 h2 M3 h3 M4 h4 M5 h5 a b d e f g j f1 f2 f3 f4 f5 f6 f7 f8 f9).2⟩
    have h6 := hI.last h
    rw [show min (t.val - 1) 30 = 30 by omega] at h6
    rw [show t.val - 1 = 30 by omega] at e4
    have hrow : k0_off2 (grid0.coords t) = ![t.val - 1, 0, 0] := by rw [j, ht]
    rw [last_eq, sampledLast_eq x T O c t ht M1 M2 M4 f1 f2 f4 f6 e1 e2 e4 h6]
    have x7 := extend h hI.maxs (B := A7.view.read (Elt F) (putRow c A7 f7 (k0_off2 (grid0.coords t)) (k0_off2_inb (grid0.coords t) b e)
        (cell (read1 c A6 f6)))) fun j => by
      rw [read3_putRow c A7 f7 _ _ hrow, read1_eq, h6, ht]
    have x8 := extend h hI.bests (B := A8.view.read (Elt F) (putRow c A8 f8 (k0_off2 (grid0.coords t)) (k0_off2_inb (grid0.coords t) b e)
        (cell (bestOf x T O 30).1))) fun j => by
      rw [read3_putRow c A8 f8 _ _ hrow, ht]
    have x9 := extend h hI.places (B := A9.view.read (Elt F) (putRow c A9 f9 (k0_off2 (grid0.coords t)) (k0_off2_inb (grid0.coords t) b e)
        (cell (bestOf x T O 30).2))) fun j => by
      rw [read3_putRow c A9 f9 _ _ hrow, ht]
    refine ⟨⟨fun _ => ?_, x7, x8, x9⟩, fun h' => absurd ht h', fun _ => ?_⟩
    · rw [show min (t.val + 1 - 1) 30 = 30 by omega]
      exact h6
    · have hall : ∀ j : S31x32x1.Idx, (j 0).val + 1 < t.val + 1 := fun j => by
        have : (j 0).val < 31 := (j 0).isLt
        omega
      have y7 := funext fun j => x7 j (hall j)
      have y8 := funext fun j => x8 j (hall j)
      have y9 := funext fun j => x9 j (hall j)
      rw [read1_put1, read3_eq, read3_eq, read3_eq, read1_eq, e1, y7, y8, y9]
      rfl

end Cert.KernelIdeal.Value

end
-- ==== Proof.Run.lean ====
module

public import proofs.«01_k».proof.Proof.Step
public import proofs.«01_k».proof.Proof.Frames
public import Idealize.ShloMosaic.Lib.StableHlo.RunRead

/-!
# The kernel's run, in values

The launch run on `run_point`: after it the result is `answer` of the logits, the temperatures and the row offsets the
program lays out.
-/

@[expose] public section

set_option maxRecDepth 65536

noncomputable section

namespace Cert.KernelIdeal.Value

open Cert.KernelIdeal Cert.KernelIdeal.Gen Cert.KernelIdeal.Body Cert.KernelIdeal.Chunk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- The logits, -/
abbrev xOf (c : Dev nD) : FVec F S32x1000000 .f32 := V m c main_arg0
/-- the temperatures as a column -/
abbrev tOf (c : Dev nD) : FVec F S32x1 .f32 := V m c main_v0
/-- and the rows' offsets, as the region finds them. -/
abbrev oOf (c : Dev nD) : IVec S32x1 32 := V m c main_c

/-- How much of window 2's block lies in the array, -/
theorem xsize_2 : ∀ t : Fin grid0.N, win0_2.xsize (grid0.coords t) = ![32, if t.val < 30 then 32768 else 16960] := by
  decide +kernel

/-- and of window 3's. -/
theorem xsize_3 : ∀ t : Fin grid0.N, win0_3.xsize (grid0.coords t) = ![32, if t.val < 31 then 32768 else 16960] := by
  decide +kernel

/-- Which block window 2 is on, -/
theorem index_2 : ∀ t : Fin grid0.N, win0_2.index t = ![0, min t.val 30] := by
  decide +kernel

/-- and window 3. -/
theorem index_3 : ∀ t : Fin grid0.N, win0_3.index t = ![0, t.val - 1] := by
  decide +kernel

/-- Window 2's buffer holds the block whose maximum the point takes, -/
theorem holds_2 (c : Dev nD) (t : Fin cfg0.N) (d : win0_2.block.Idx → Elt F .f32) :
    Holds (xOf m c) (min t.val 30) (win0_2.fill (grid0.coords t) d (iblk m c 2 t)) := by
  intro j hj
  have hN : t.val < 32 := lt_of_lt_of_eq t.isLt N_0
  have h1 : (j 1).val < 32768 := (j 1).isLt
  have hm : win0_2.moved (grid0.coords t) j = true := by
    refine (win0_2.moved_iff _ _).2 fun a => ?_
    rw [xsize_2 t]
    fin_cases a
    · exact (j 0).isLt
    · show (j 1).val < if t.val < 30 then 32768 else 16960
      split <;> omega
  unfold Window.fill
  rw [dif_pos hm]
  unfold iblk
  rw [View.read_apply]
  refine (cast_eq _ _).trans (logit_eq _ _ _ _ ?_ ?_)
  · refine (win0_2.rect_emb_val_of_index_zero t 0 (by rw [index_2]; rfl) _).trans rfl
  · refine (win0_2.rect_emb_val t _ 1).trans ?_
    rw [index_2]
    show min t.val 30 * 32768 + (j 1).val = _
    omega

/-- and window 3's the block the point samples. -/
theorem holds_3 (c : Dev nD) (t : Fin cfg0.N) (d : win0_3.block.Idx → Elt F .f32) :
    Holds (xOf m c) (t.val - 1) (win0_3.fill (grid0.coords t) d (iblk m c 3 t)) := by
  intro j hj
  have hN : t.val < 32 := lt_of_lt_of_eq t.isLt N_0
  have h1 : (j 1).val < 32768 := (j 1).isLt
  have hm : win0_3.moved (grid0.coords t) j = true := by
    refine (win0_3.moved_iff _ _).2 fun a => ?_
    rw [xsize_3 t]
    fin_cases a
    · exact (j 0).isLt
    · show (j 1).val < if t.val < 31 then 32768 else 16960
      split <;> omega
  unfold Window.fill
  rw [dif_pos hm]
  unfold iblk
  rw [View.read_apply]
  refine (cast_eq _ _).trans (logit_eq _ _ _ _ ?_ ?_)
  · refine (win0_3.rect_emb_val_of_index_zero t 0 (by rw [index_3]; rfl) _).trans rfl
  · refine (win0_3.rect_emb_val t _ 1).trans ?_
    rw [index_3]
    show (t.val - 1) * 32768 + (j 1).val = _
    omega

/-- Window 0's block is the whole column of temperatures, -/
theorem iblk_0 (c : Dev nD) (t : Fin cfg0.N) : iblk m c 0 t = tOf m c := by
  funext j
  unfold iblk
  rw [View.read_apply]
  refine (cast_eq _ _).trans (congrArg (V m c main_v0) (Shape.idx_ext₂ ?_ ?_))
  · exact win0_0.rect_emb_val_of_index_zero t 0 rfl j
  · exact win0_0.rect_emb_val_of_index_zero t 1 rfl j

/-- and window 1's the whole column of offsets. -/
theorem iblk_1 (c : Dev nD) (t : Fin cfg0.N) : iblk m c 1 t = oOf m c := by
  funext j
  unfold iblk
  rw [View.read_apply]
  refine (cast_eq _ _).trans (congrArg (V m c main_c) (Shape.idx_ext₂ ?_ ?_))
  · exact win0_1.rect_emb_val_of_index_zero t 0 rfl j
  · exact win0_1.rect_emb_val_of_index_zero t 1 rfl j

/-- What the body leaves in each window's staging buffer. -/
def left (c : Dev nD) : (w : Fin cfg0.W) → (t : Fin cfg0.N) → (cfg0.win w).block.Idx → Elt F (cfg0.win w).elt
  | 0 => fun t => iblk m c 0 t
  | 1 => fun t => iblk m c 1 t
  | 2 => fun t => win0_2.fill (grid0.coords t) (Classical.arbitrary _) (iblk m c 2 t)
  | 3 => fun t => win0_3.fill (grid0.coords t) (Classical.arbitrary _) (iblk m c 3 t)
  | 4 => fun _ => answer (xOf m c) (tOf m c) (oOf m c)

/-- What the scratch buffers hold before point `t`. -/
def held (c : Dev nD) (t : ℕ) : sProp 𝕄 :=
  iprop((∃ f6 : Bf (F := F) c A6, ∃ f7 : Bf (F := F) c A7, ∃ f8 : Bf (F := F) c A8, ∃ f9 : Bf (F := F) c A9,
    ⌜Inv (xOf m c) (tOf m c) (oOf m c) t c f6 f7 f8 f9⌝ ∗ pt c A6 f6 ∗ pt c A7 f7 ∗ pt c A8 f8 ∗ pt c A9 f9)
    ∗ ∃ r, prngReg c r)

/-- The launch's data. -/
def dats (p : Fin 1) (c : Dev nD) : Dat τ (Elt F) Unit ℕ (UR sig nD τ) ℕ (cfgs p) c :=
  match p with
  | 0 => { A := fun w => V m c (Pipeline.arrRef spec0 w)
           after := left m c
           Φ := fun t => held m c t.val
           q := fun w => Pipeline.shareOf spec0 w
           owed := fun _ => 0 }
  | ⟨_ + 1, h⟩ => absurd h (Nat.not_lt.2 (Nat.le_add_left _ _))

/-- Window 2's buffer as a point finds it, -/
theorem before_2 (c : Dev nD) (t : Fin cfg0.N) (d) :
    (dats m 0 c).before 2 t d = win0_2.fill (grid0.coords t) d (iblk m c 2 t) :=
  (dats m 0 c).before_in_eq_fetched 2 rfl (fun _ => rfl)
    (fun t t' h => by
      show (fun a => Pipeline.Clip.of (win0_2.index t a) _ _) = fun a => Pipeline.Clip.of (win0_2.index t' a) _ _
      exact funext fun a => congrArg (Pipeline.Clip.of · _ _) (congrFun h a))
    (fun t => Window.cut_fill _ _ _ _) t d

/-- and window 3's. -/
theorem before_3 (c : Dev nD) (t : Fin cfg0.N) (d) :
    (dats m 0 c).before 3 t d = win0_3.fill (grid0.coords t) d (iblk m c 3 t) :=
  (dats m 0 c).before_in_eq_fetched 3 rfl (fun _ => rfl)
    (fun t t' h => by
      show (fun a => Pipeline.Clip.of (win0_3.index t a) _ _) = fun a => Pipeline.Clip.of (win0_3.index t' a) _ _
      exact funext fun a => congrArg (Pipeline.Clip.of · _ _) (congrFun h a))
    (fun t => Window.cut_fill _ _ _ _) t d

/-- A whole buffer owned at contents read through it is its points-to. -/
theorem owns_pt {sp : Space} {sh : Shape} {e : EltTy} (c : Dev nD) (M : Memref sig .tc sp sh e) (h : M.IsWhole) (X : sh.Idx → Elt F e) :
    (owns (c : Thread nD τ) M fullShare X : sProp 𝕄)
      = iprop(∃ f : Bf (F := F) c M, ⌜M.view.read (Elt F) f = X⌝ ∗ pt c M f) := by
  unfold owns
  rw [h.set_eq_univ]

/-- The output's buffer is written at the last point only. -/
theorem idle_4 : ∀ t : Fin grid0.N, cfg0.idle 4 (grid0.coords t) = decide (t.val ≠ 31) := by
  decide +kernel

/-- What the body leaves of the output's buffer. -/
def out4 (c : Dev nD) (t : Fin cfg0.N) : sProp 𝕄 :=
  if t.val = 31 then owns (c : Thread nD τ) ((cfg0.win 4).stage (cfg0.slots t 4)) fullShare (answer (xOf m c) (tOf m c) (oOf m c))
  else iprop(∃ d, owns (c : Thread nD τ) ((cfg0.win 4).stage (cfg0.slots t 4)) fullShare ((dats m 0 c).before 4 t d))

/-- The body's obligation at every point. -/
theorem obligation (c : Dev nD) :
    BodyObligationLoose (dats m 0 c) (defs₀ (F := F)) Variants.none () Set.univ := fun t => by
  have hN : t.val < 32 := lt_of_lt_of_eq t.isLt N_0
  rw [bigSep_W0, bigSep_W0]
  have e4 : (match cfg0.idle 4 (cfg0.grid.coords t) with
      | true =>
        match (cfg0.win 4).flush t with
        | false => iprop(∃ d, owns (c : Thread nD τ) ((cfg0.win 4).stage (cfg0.slots t 4)) fullShare ((dats m 0 c).before 4 t d))
        | true => owns (c : Thread nD τ) ((cfg0.win 4).stage (cfg0.slots t 4)) fullShare ((dats m 0 c).after 4 t)
      | false => owns (c : Thread nD τ) ((cfg0.win 4).stage (cfg0.slots t 4)) fullShare ((dats m 0 c).after 4 t))
      = (out4 m c t : sProp 𝕄) := by
    have hi : cfg0.idle 4 (cfg0.grid.coords t) = decide (t.val ≠ 31) := idle_4 t
    rw [hi]
    unfold out4
    by_cases h : t.val = 31
    · rw [if_pos h, decide_eq_false (not_not.2 h)]
      rfl
    · have hf : (cfg0.win 4).flush t = false := by
        rw [← Bool.not_eq_true, flush0_4]
        omega
      rw [if_neg h, decide_eq_true h, hf]
  show iprop(held m c t.val ∗ (dats m 0 c).owesAt () t.castSucc
      ∗ (∃ d, owns (c : Thread nD τ) ((cfg0.win 0).stage (cfg0.slots t 0)) fullShare ((dats m 0 c).before 0 t d))
      ∗ (∃ d, owns (c : Thread nD τ) ((cfg0.win 1).stage (cfg0.slots t 1)) fullShare ((dats m 0 c).before 1 t d))
      ∗ (∃ d, owns (c : Thread nD τ) ((cfg0.win 2).stage (cfg0.slots t 2)) fullShare ((dats m 0 c).before 2 t d))
      ∗ (∃ d, owns (c : Thread nD τ) ((cfg0.win 3).stage (cfg0.slots t 3)) fullShare ((dats m 0 c).before 3 t d))
      ∗ (∃ d, owns (c : Thread nD τ) ((cfg0.win 4).stage (cfg0.slots t 4)) fullShare ((dats m 0 c).before 4 t d)))
    ⊢ wp frame (wpE (defs₀ (F := F)) Variants.none c none) Set.univ (bodyAt0 t) fun _ =>
      iprop(held m c (t.val + 1) ∗ (dats m 0 c).owesAt () t.castSucc
      ∗ owns (c : Thread nD τ) ((cfg0.win 0).stage (cfg0.slots t 0)) fullShare (iblk m c 0 t)
      ∗ owns (c : Thread nD τ) ((cfg0.win 1).stage (cfg0.slots t 1)) fullShare (iblk m c 1 t)
      ∗ (∃ d, owns (c : Thread nD τ) ((cfg0.win 2).stage (cfg0.slots t 2)) fullShare
          (win0_2.fill (grid0.coords t) d (win0_2.cut (grid0.coords t) (win0_2.fill (grid0.coords t) (Classical.arbitrary _) (iblk m c 2 t)))))
      ∗ (∃ d, owns (c : Thread nD τ) ((cfg0.win 3).stage (cfg0.slots t 3)) fullShare
          (win0_3.fill (grid0.coords t) d (win0_3.cut (grid0.coords t) (win0_3.fill (grid0.coords t) (Classical.arbitrary _) (iblk m c 3 t)))))
      ∗ match cfg0.idle 4 (cfg0.grid.coords t) with
      | true =>
        match (cfg0.win 4).flush t with
        | false => iprop(∃ d, owns (c : Thread nD τ) ((cfg0.win 4).stage (cfg0.slots t 4)) fullShare ((dats m 0 c).before 4 t d))
        | true => owns (c : Thread nD τ) ((cfg0.win 4).stage (cfg0.slots t 4)) fullShare ((dats m 0 c).after 4 t)
      | false => owns (c : Thread nD τ) ((cfg0.win 4).stage (cfg0.slots t 4)) fullShare ((dats m 0 c).after 4 t))
  rw [e4, Window.cut_fill, Window.cut_fill]
  simp only [before0_0_of m (dats m 0 c) rfl (fun _ => rfl) t, before0_1_of m (dats m 0 c) rfl (fun _ => rfl) t, before_2, before_3,
    owns_pt c _ (stage_whole0 0 (cfg0.slots t 0)), owns_pt c _ (stage_whole0 1 (cfg0.slots t 1)),
    owns_pt c _ (stage_whole0 2 (cfg0.slots t 2)), owns_pt c _ (stage_whole0 3 (cfg0.slots t 3)), iblk_0, iblk_1]
  unfold held out4
  simp only [owns_pt c _ (stage_whole0 4 (cfg0.slots t 4))]
  iintro ⟨⟨⟨%f6, %f7, %f8, %f9, %hI, H6, H7, H8, H9⟩, Hg⟩, Ho, ⟨%d1, %f1, %e1, H1⟩, ⟨%d2, %f2, %e2, H2⟩, ⟨%d3, %f3, %e3, H3⟩, ⟨%d4, %f4, %e4, H4⟩, ⟨%d5, %f5, %e5, H5⟩⟩
  obtain ⟨W, ⟨hI', hsame, hans⟩, hW⟩ := run_point (F := F) (xOf m c) (tOf m c) (oOf m c) c t
    (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) f1 f2 f3 f4 f5 f6 f7 f8 f9 e1 e2
    (by rw [e3]; exact holds_2 m c t d3) (by rw [e4]; exact holds_3 m c t d4) hI
  iapply (hW Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  isplitl [H6 H7 H8 H9 Hg]
  · isplitl [H6 H7 H8 H9]
    · iexists _; iexists _; iexists _; iexists _
      isplitr; · ipureintro; exact hI'
      isplitl [H6]; · iexact H6
      isplitl [H7]; · iexact H7
      isplitl [H8]; · iexact H8
      iexact H9
    · iexact Hg
  isplitl [Ho]; · iexact Ho
  isplitl [H1]
  · iexists f1
    isplitr; · ipureintro; exact e1
    iexact H1
  isplitl [H2]
  · iexists f2
    isplitr; · ipureintro; exact e2
    iexact H2
  isplitl [H3]
  · iexists d3; iexists f3
    isplitr; · ipureintro; exact e3
    iexact H3
  isplitl [H4]
  · iexists d4; iexists f4
    isplitr; · ipureintro; exact e4
    iexact H4
  by_cases h : t.val = 31
  · rw [if_pos h]
    iexists W.1
    isplitr; · ipureintro; exact hans h
    iexact H5
  · rw [if_neg h]
    iexists d5; iexists W.1
    isplitr
    · ipureintro
      rw [hsame h]
      exact e5
    iexact H5

/-- The scratch buffers at anything will do before the first point, -/
theorem held_in (c : Dev nD) : (Pipeline.ΦA spec0 c : sProp 𝕄) ⊢ held m c 0 := by
  unfold Pipeline.ΦA held
  rw [scopedRest0_eq]
  iintro ⟨⟨⟨%f6, H6⟩, ⟨%f7, H7⟩, ⟨%f8, H8⟩, ⟨%f9, H9⟩⟩, Hg⟩
  isplitl [H6 H7 H8 H9]
  · iexists f6; iexists f7; iexists f8; iexists f9
    isplitr
    · ipureintro
      exact ⟨fun h => absurd h (by omega), fun j hj => absurd hj (by omega), fun j hj => absurd hj (by omega),
        fun j hj => absurd hj (by omega)⟩
    isplitl [H6]; · iexact H6
    isplitl [H7]; · iexact H7
    isplitl [H8]; · iexact H8
    iexact H9
  · iexact Hg

/-- and after the last their contents are forgotten. -/
theorem held_out (c : Dev nD) (t : ℕ) : (held m c t : sProp 𝕄) ⊢ Pipeline.ΦA spec0 c := by
  unfold Pipeline.ΦA held
  rw [scopedRest0_eq]
  iintro ⟨⟨%f6, %f7, %f8, %f9, -, H6, H7, H8, H9⟩, Hg⟩
  isplitl [H6 H7 H8 H9]
  · isplitl [H6]; · iexists _; iexact H6
    isplitl [H7]; · iexists _; iexact H7
    isplitl [H8]; · iexists _; iexact H8
    iexists _; iexact H9
  · iexact Hg

/-- The write-backs leave the answer in the output's array. -/
theorem array_4 (c : Dev nD) : (dats m 0 c).arrAt 4 cfg0.N = answer (xOf m c) (tOf m c) (oOf m c) := by
  have h31 : 31 < cfg0.N := lt_of_lt_of_eq (by decide) N_0.symm
  have hf : (cfg0.win 4).flush ⟨31, h31⟩ = true := (flush0_4 ⟨31, h31⟩).2 rfl
  rw [show cfg0.N = 31 + 1 from N_0]
  have e : (dats m 0 c).arrAt 4 (31 + 1)
      = ((cfg0.win 4).blk ⟨31, h31⟩).view.write (Elt F) ((dats m 0 c).arrAt 4 31) ((dats m 0 c).flushed 4 ⟨31, h31⟩) Finset.univ := by
    rw [Dat.arrAt]
    dsimp only
    rw [dif_pos h31, if_pos hf]
  rw [e]
  funext j
  have hj : ((cfg0.win 4).blk ⟨31, h31⟩).view.emb j = j :=
    Shape.idx_ext₂ (win0_4.rect_emb_val_of_index_zero ⟨31, h31⟩ 0 rfl j) (win0_4.rect_emb_val_of_index_zero ⟨31, h31⟩ 1 rfl j)
  refine (congrArg _ hj.symm).trans ?_
  rw [View.write_emb_of_mem _ _ (Finset.mem_univ _)]
  exact cast_eq _ _

/-- After the launch the output's array reads the answer. -/
theorem arrays_4 (c : Dev nD) :
    Pipeline.withArrays spec0 c (V0 m c) (fun w => (dats m 0 c).arrAt w cfg0.N) (Proc.devRef .tc main_v1)
      = answer (xOf m c) (tOf m c) (oOf m c) := by
  refine (Pipeline.withArrays_arr_shared spec0 c (V0 m c) (fun w : Fin cfg0.W => (dats m 0 c).arrAt w cfg0.N) ?_ 4).trans (array_4 m c)
  intro w w' hne he
  have hin : ∀ w w' : Fin 5, w ≠ w' → Pipeline.arrRef spec0 w = Pipeline.arrRef spec0 w' → w = 2 ∨ w = 3 := by decide
  rcases hin w w' hne he with rfl | rfl
  · exact (dats m 0 c).arrAt_in 2 rfl _
  · exact (dats m 0 c).arrAt_in 3 rfl _

/-- The program's last operation lays the answer out as a row. -/
theorem result_2 (c : Dev nD) :
    Pipeline.afterTail₀ cfgs (dats m) 0 (V0 m) [hostOps1] c main_v2
      = shapeCast S32 (answer (xOf m c) (tOf m c) (oOf m c)) shapeCasts_S32x1_S32 := by
  unfold Pipeline.afterTail₀
  rw [← arrays_4]
  simp only [hostOps1, List.flatten_cons, List.flatten_nil, List.append_nil, List.cons_append, List.nil_append]
  after_reads_simp
  rfl

/-- The kernel runs to completion from any memory; its result is the answer as a row, its two arguments end as they were,
    and no semaphore is left up. -/
theorem value_run (ρ : Dev nD → PrngReg) :
    θ_run defs (onTc (τ := τ) (main (F := F))) ⟨m, fun _ => 0, ρ⟩ (fun r => (∀ c : Dev nD,
      r.2.mem ((c.tc : Thread nD τ).loc main_v2) = shapeCast S32 (answer (xOf m c) (tOf m c) (oOf m c)) shapeCasts_S32x1_S32
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_around_track_shared cfgs (dats m) 0 launch₀0 defs₀ Variants.none m ρ main
    (obligation m) (fun _ _ _ => rfl) (fun _ _ => rfl) (V0 m) [hostOps1] sfx_sub sfx_fresh sfx_keeps
    (hmain m Variants.none) (fun _ _ => rfl) (held_in m) (fun c => held_out m c _) _
    (fun r h => ⟨fun c => ⟨((h.1 c).2 main_v2 (Pipeline.mem_restRefs_of main_v2 (by decide) (by decide))).trans (result_2 m c),
      ((h.1 c).1 3).trans (((dats m 0 c).arrAt_in 3 rfl _).trans (V_main_arg0 m c)),
      ((h.1 c).2 main_arg1 (Pipeline.mem_restRefs_of main_arg1 (by decide) (by decide))).trans (W_main_arg1 m (dats m) c)⟩, h.2⟩)

/-- The region finds the temperatures laid out as a column, -/
theorem tOf_eq (c : Dev nD) : tOf m c = shapeCast S32x1 (m ((c.tc : Thread nD τ).loc main_arg1)) shapeCasts_S32_S32x1 := by
  show StableHlo.after (List.flatten [hostOps0]) (fun b => m (c, b)) (Proc.devRef .tc main_v0) = _
  simp only [hostOps0, List.flatten_cons, List.flatten_nil, List.append_nil, List.cons_append, List.nil_append]
  after_reads_simp
  rfl

/-- and the offsets as the program lists them. -/
theorem oOf_eq (c : Dev nD) : oOf m c = fun i => lit0 (S32x1.rowMajor i) := by
  show StableHlo.after (List.flatten [hostOps0]) (fun b => m (c, b)) (Proc.devRef .tc main_c) = _
  simp only [hostOps0, List.flatten_cons, List.flatten_nil, List.append_nil, List.cons_append, List.nil_append]
  after_reads_simp
  rfl

end Cert.KernelIdeal.Value

end
-- ==== Proof.Agree.lean ====
module

public import proofs.«01_k».proof.Proof.PreValue
public import proofs.«01_k».proof.Proof.Run
public import proofs.«01_k».proof.Proof.RefFrame

/-!
# The kernel and the reference give the same words

Under the precondition the kernel's answer on each row is the reference's result there (`same_row`); so both programs, run
from memories with the same arguments, end with the same results (`algebraic`).
-/

@[expose] public section

set_option maxRecDepth 65536

noncomputable section

namespace Cert.Agree

open Cert.KernelIdeal.Value Cert.ReferenceIdeal.Line
open Idealize.ShloMosaic Idealize.ShloMosaic.TcCoe Idealize.SL.Sem
open Idealize.ShloMosaic.View

/-- The place of a row's word in a column. -/
def column (j : Cert.KernelIdeal.S32.Idx) : Cert.KernelIdeal.S32x1.Idx := fun a =>
  match a with
  | ⟨0, _⟩ => ⟨(j 0).val, (j 0).isLt⟩
  | ⟨1, _⟩ => ⟨0, Nat.one_pos⟩

/-- A column as a row. -/
theorem row_apply {α : Type} (v : Cert.KernelIdeal.S32x1.Idx → α) (h : Cert.KernelIdeal.S32x1.ShapeCasts Cert.KernelIdeal.S32)
    (j : Cert.KernelIdeal.S32.Idx) : shapeCast Cert.KernelIdeal.S32 v h j = v (column j) := by
  refine shapeCast_apply _ _ _ _ ?_
  rw [Shape.rowMajor_val_one, Shape.rowMajor_val_two]
  show (j 0).val * 1 + 0 = (j 0).val
  omega

/-- The offsets the program lists are the multiples of the rows' length, plus the key. -/
theorem offsets : ∀ r : Fin 32, Cert.KernelIdeal.lit0 r = BitVec.ofNat 32 (1000000 * r.val) + 42#32 := by decide

/-- The offset of a row. -/
theorem offset_apply (j : Cert.KernelIdeal.S32.Idx) :
    Cert.KernelIdeal.lit0 (Cert.KernelIdeal.S32x1.rowMajor (column j)) = BitVec.ofNat 32 (1000000 * (j 0).val) + 42#32 := by
  have e : Cert.KernelIdeal.S32x1.rowMajor (column j) = (⟨(j 0).val, (j 0).isLt⟩ : Fin 32) := by
    refine Fin.ext ?_
    rw [Shape.rowMajor_val_two]
    show (j 0).val * 1 + 0 = (j 0).val
    omega
  rw [e]
  exact offsets _

/-- On each row the kernel's answer is the reference's result. -/
theorem same_row (x : FVec Ideal Cert.KernelIdeal.S32x1000000 .f32) (t : FVec Ideal Cert.KernelIdeal.S32 .f32)
    (T : FVec Ideal Cert.KernelIdeal.S32x1 .f32) (O : IVec Cert.KernelIdeal.S32x1 32) (j : Cert.KernelIdeal.S32.Idx)
    (hT : T (column j) = t j) (hO : O (column j) = BitVec.ofNat 32 (1000000 * (j 0).val) + 42#32)
    (h1 : (Cert.Pre_finite_with_clear_winners.fn (F := Ideal) x t).1 = fun _ => 1#1)
    (h2 : (Cert.Pre_finite_with_clear_winners.fn (F := Ideal) x t).2.1 = fun _ => 1#1)
    (h3 : (Cert.Pre_finite_with_clear_winners.fn (F := Ideal) x t).2.2.1 = fun _ => 1#1)
    (h4 : (Cert.Pre_finite_with_clear_winners.fn (F := Ideal) x t).2.2.2 = fun _ => 1#1) :
    answer x T O (column j) = result x t j := by
  obtain ⟨Y, τ, hx, ht, hτ, hwin⟩ := precondition x t h1 h2 h3 h4 j
  obtain ⟨X, hX⟩ : ∃ X : ℕ → ℝ, ∀ k : Fin 1000000, X k.val = Y k :=
    ⟨fun c => if h : c < 1000000 then Y ⟨c, h⟩ else 0, fun k => dif_pos k.isLt⟩
  have hl : ∀ c < 1000000, logit x (column j 0).val c = (X c : EReal) := fun c hc => by
    have e := logit_eq x (cell j ⟨c, hc⟩) (j 0).val c rfl rfl
    exact e.symm.trans ((hx ⟨c, hc⟩).trans (congrArg _ (hX ⟨c, hc⟩).symm))
  obtain ⟨k, hk, ha, hmax, hfirst⟩ := answer_first x T O (column j) X τ hl (hT.trans ht) hτ hO
  rw [ha]
  by_cases h0 : τ = 0
  · obtain ⟨n, hn, n1, n2⟩ := result_cold x t j Y τ hx ht h0
    have hs : ∀ c, score X τ (column j 0).val c = X c := fun c => by
      unfold score heat scale
      rw [if_pos h0, if_pos h0, div_one, mul_zero, add_zero]
    rw [hn]
    have hle := hmax n.val n.isLt
    rw [hs, hs, hX, show k = (⟨k, hk⟩ : Fin 1000000).val from rfl, hX] at hle
    rcases lt_trichotomy k n.val with h | h | h
    · exact absurd (n2 ⟨k, hk⟩ h) hle.not_gt
    · rw [h]
    · have hlt := hfirst n.val h
      rw [hs, hs, hX, show k = (⟨k, hk⟩ : Fin 1000000).val from rfl, hX] at hlt
      exact absurd (n1 ⟨k, hk⟩) hlt.not_ge
  · obtain ⟨n, hn⟩ := hwin h0
    rw [result_warm x t j Y τ hx ht hτ h0 n hn]
    have hs : ∀ c : Fin 1000000, score X τ (column j 0).val c.val
        = Y c / heat τ + Margin.noise (Margin.clipped (Noise.draw (j 0).val c.val)) := fun c => by
      unfold score scale
      rw [if_neg h0, mul_one, hX]
      rfl
    by_contra hne
    have hnk : (⟨k, hk⟩ : Fin 1000000) ≠ n := fun e => hne (by rw [← e])
    have hw := Margin.winner_of_scores (fun c : Fin 1000000 => Y c / heat τ) (fun c => Noise.draw (j 0).val c.val)
      (fun c => Noise.draw_lt _ _) n hn ⟨k, hk⟩ hnk
    have hle := hmax n.val n.isLt
    rw [show k = (⟨k, hk⟩ : Fin 1000000).val from rfl, hs, hs] at hle
    exact absurd hle hw.not_ge

/-- Both programs, run over the reals from memories that agree on the arguments and meet the precondition, end with the same
result and their arguments as they were. -/
theorem algebraic : Cert.algebraic_KernelIdeal_ReferenceIdeal_pre_finite_with_clear_winners
    (hKernelIdeal := Cert.KernelIdeal.Gen.facts) (hReferenceIdeal := Cert.ReferenceIdeal.Gen.facts)
    (hPre_finite_with_clear_winners := Cert.Pre_finite_with_clear_winners.facts) := by
  intro m g m' g' hpre hag
  refine ⟨fun c => shapeCast Cert.KernelIdeal.S32 (answer (xOf m c) (tOf m c) (oOf m c)) Cert.KernelIdeal.Gen.facts.shapeCasts_S32x1_S32, ?_, ?_⟩
  · exact θ_run_mono (value_run m g) fun r h => h.1
  · refine θ_run_mono (run_line m' g') fun r h c => ⟨?_, ?_, ?_⟩
    · rw [h c Cert.ReferenceIdeal.main_v34]
      refine (result_read _).trans ?_
      have e0 : StableHlo.launchContents m' c (Proc.devRef .tc Cert.ReferenceIdeal.main_arg0)
          = m ((c.tc : Thread Cert.KernelIdeal.nD Cert.KernelIdeal.τ).loc Cert.KernelIdeal.main_arg0) := (hag c).1
      have e1 : StableHlo.launchContents m' c (Proc.devRef .tc Cert.ReferenceIdeal.main_arg1)
          = m ((c.tc : Thread Cert.KernelIdeal.nD Cert.KernelIdeal.τ).loc Cert.KernelIdeal.main_arg1) := (hag c).2
      rw [e0, e1]
      funext j
      obtain ⟨h1, h2, h3, h4⟩ := hpre c
      refine Eq.symm ((row_apply _ _ j).trans ?_)
      rw [show xOf m c = m ((c.tc : Thread Cert.KernelIdeal.nD Cert.KernelIdeal.τ).loc Cert.KernelIdeal.main_arg0) from
        Cert.KernelIdeal.Gen.V_main_arg0 m c]
      refine same_row _ _ _ _ j ?_ ?_ h1 h2 h3 h4
      · rw [tOf_eq]
        exact (column_apply _ _).trans (congrArg _ (funext fun a => match a with | ⟨0, _⟩ => rfl))
      · rw [oOf_eq]
        exact offset_apply j
    · rw [h c Cert.ReferenceIdeal.main_arg0]
      exact arg0_kept _
    · rw [h c Cert.ReferenceIdeal.main_arg1]
      exact arg1_kept _

end Cert.Agree

end
-- ==== Proof.lean ====
/-
  The proof of the certificate's claim: the three frames, the preservation, and the algebraic claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.PreFacts
public import proofs.«01_k».proof.Proof.Frames
public import proofs.«01_k».proof.Proof.PrintedFrames
public import proofs.«01_k».proof.Proof.RefFrame
public import proofs.«01_k».proof.Proof.Agree

@[expose] public section

noncomputable section

namespace Cert.Proof

open Idealize.ShloMosaic Idealize.SL.Sem

/-- The kernel as printed and its ideal edition run to completion, as does the reference, each with its arguments kept
    and every semaphore counter at zero; the ideal edition rewrites nothing; and over the reals, under the precondition,
    the kernel and the reference end with the same result. -/
theorem claim : Cert.Claim :=
  ⟨Cert.Kernel.Gen.facts, Cert.KernelIdeal.Gen.facts, Cert.ReferenceIdeal.Gen.facts, Cert.Pre_finite_with_clear_winners.facts,
    fun m ρ _ => Cert.Kernel.Body.frame_run m ρ, fun m ρ _ => Cert.KernelIdeal.Body.frame_run m ρ,
    fun m ρ _ => Cert.KernelIdeal.Body.frame_run m ρ, fun m ρ _ => Cert.ReferenceIdeal.Line.frame_run m ρ,
    fun m ρ _ => Cert.ReferenceIdeal.Line.frame_run m ρ, trivial, Cert.Agree.algebraic⟩

end Cert.Proof

end
